-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)) (v1 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_v6) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v3) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v22_0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v22_0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)) (v1 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_v6) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_v3) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v32) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S128x15360 : Shape := ⟨2, ![128, 15360]⟩
abbrev S2x2048 : Shape := ⟨2, ![2, 2048]⟩
abbrev S1x2048 : Shape := ⟨2, ![1, 2048]⟩
abbrev S1x8x16x128x128 : Shape := ⟨5, ![1, 8, 16, 128, 128]⟩
abbrev S_ : Shape := ⟨0, ![]⟩
abbrev S2048 : Shape := ⟨1, ![2048]⟩
abbrev S8x16x128x128 : Shape := ⟨4, ![8, 16, 128, 128]⟩
abbrev S128x2048 : Shape := ⟨2, ![128, 2048]⟩
abbrev S128x1024 : Shape := ⟨2, ![128, 1024]⟩
abbrev S1x1024 : Shape := ⟨2, ![1, 1024]⟩
abbrev S8x8x128x128 : Shape := ⟨4, ![8, 8, 128, 128]⟩
abbrev S1x1x128x128 : Shape := ⟨4, ![1, 1, 128, 128]⟩
abbrev S128x128 : Shape := ⟨2, ![128, 128]⟩
abbrev S1024x128 : Shape := ⟨2, ![1024, 128]⟩
abbrev S1024x1 : Shape := ⟨2, ![1024, 1]⟩
abbrev S64x16x128 : Shape := ⟨3, ![64, 16, 128]⟩
abbrev S64x1x128 : Shape := ⟨3, ![64, 1, 128]⟩
abbrev S1x8x1 : Shape := ⟨3, ![1, 8, 1]⟩
abbrev S64x8x128 : Shape := ⟨3, ![64, 8, 128]⟩
abbrev S64x8 : Shape := ⟨2, ![64, 8]⟩
abbrev S64x8x1 : Shape := ⟨3, ![64, 8, 1]⟩
abbrev S16x128 : Shape := ⟨2, ![16, 128]⟩
abbrev S1x1x128 : Shape := ⟨3, ![1, 1, 128]⟩
abbrev S1x128 : Shape := ⟨2, ![1, 128]⟩
abbrev S1024 : Shape := ⟨1, ![1024]⟩

abbrev nBuf : Space → Nat
  | .hbm => 29
  | .vmem => 19
  | .smem => 0
  | _ => 0

abbrev bufTy : (tb : Table) → Fin (tcTables nBuf tb) → BufTy
  | .hbm, ⟨0, _⟩ => ⟨S128x15360, .f32⟩
  | .hbm, ⟨1, _⟩ => ⟨S2x2048, .f32⟩
  | .hbm, ⟨2, _⟩ => ⟨S1x2048, .f32⟩
  | .hbm, ⟨3, _⟩ => ⟨S1x8x16x128x128, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S2x2048, .f32⟩
  | .hbm, ⟨17, _⟩ => ⟨S2x2048, .f32⟩
  | .hbm, ⟨18, _⟩ => ⟨S_, .f32⟩
  | .hbm, ⟨19, _⟩ => ⟨S_, .f32⟩
  | .hbm, ⟨20, _⟩ => ⟨S2x2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S8x16x128x128, .f32⟩
  | .hbm, ⟨27, _⟩ => ⟨S128x2048, .bf16⟩
  | .hbm, ⟨28, _⟩ => ⟨S8x16x128x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S8x8x128x128, .f32⟩
  | .local _ .vmem, ⟨13, _⟩ => ⟨S8x8x128x128, .f32⟩
  | .local _ .vmem, ⟨14, _⟩ => ⟨S128x1024, .bf16⟩
  | .local _ .vmem, ⟨15, _⟩ => ⟨S128x1024, .bf16⟩
  | .local _ .vmem, ⟨16, _⟩ => ⟨S8x8x128x128, .f32⟩
  | .local _ .vmem, ⟨17, _⟩ => ⟨S8x8x128x128, .f32⟩
  | .local _ .vmem, ⟨18, _⟩ => ⟨S8x8x128x128, .f32⟩
  | _, _ => ⟨S128x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_722 : BitVec 32 := 0#32
  let v1810 : BitVec 1 := Scalar.cmpi .eq arg2 c0_i32_722
  let v1811 : BitVec 32 := Scalar.extui v1810
  let c0_i32_723 : BitVec 32 := 0#32
  let v1812 : BitVec 1 := Scalar.cmpi .ne v1811 c0_i32_723
  v1812

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S8x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S8x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S128x15360 : Shape := ⟨2, ![128, 15360]⟩
abbrev S2x2048 : Shape := ⟨2, ![2, 2048]⟩
abbrev S1x2048 : Shape := ⟨2, ![1, 2048]⟩
abbrev S1x8x16x128x128 : Shape := ⟨5, ![1, 8, 16, 128, 128]⟩
abbrev S_ : Shape := ⟨0, ![]⟩
abbrev S2048 : Shape := ⟨1, ![2048]⟩
abbrev S8x16x15360 : Shape := ⟨3, ![8, 16, 15360]⟩
abbrev S8x16x2048 : Shape := ⟨3, ![8, 16, 2048]⟩
abbrev S8x16x7168 : Shape := ⟨3, ![8, 16, 7168]⟩
abbrev S1x1x2048 : Shape := ⟨3, ![1, 1, 2048]⟩
abbrev S8x16x16x128 : Shape := ⟨4, ![8, 16, 16, 128]⟩
abbrev S8x16x128x128 : Shape := ⟨4, ![8, 16, 128, 128]⟩
abbrev S16x16 : Shape := ⟨2, ![16, 16]⟩
abbrev S1x1x16x16x1 : Shape := ⟨5, ![1, 1, 16, 16, 1]⟩
abbrev S8x16x16x1x128 : Shape := ⟨5, ![8, 16, 16, 1, 128]⟩
abbrev S8x16x1x16x128 : Shape := ⟨5, ![8, 16, 1, 16, 128]⟩
abbrev S8x16x16x16x128 : Shape := ⟨5, ![8, 16, 16, 16, 128]⟩
abbrev S8x16x16x16 : Shape := ⟨4, ![8, 16, 16, 16]⟩
abbrev S8x16x1x128 : Shape := ⟨4, ![8, 16, 1, 128]⟩
abbrev S8x16x128 : Shape := ⟨3, ![8, 16, 128]⟩
abbrev S8x16x128x1 : Shape := ⟨4, ![8, 16, 128, 1]⟩
abbrev S8x16x16 : Shape := ⟨3, ![8, 16, 16]⟩
abbrev S8x16x16x1 : Shape := ⟨4, ![8, 16, 16, 1]⟩
abbrev S128x2048 : Shape := ⟨2, ![128, 2048]⟩

abbrev nBuf : Space → Nat
  | .hbm => 153
  | .vmem => 0
  | .smem => 0
  | _ => 0

abbrev hbmTy0_0 (i : Nat) : BufTy := match i % 128 with
  | 0 => ⟨S128x15360, .f32⟩
  | 1 => ⟨S2x2048, .f32⟩
  | 2 => ⟨S1x2048, .f32⟩
  | 3 => ⟨S1x8x16x128x128, .f32⟩
  | 4 => ⟨S_, .f32⟩
  | 5 => ⟨S2048, .f32⟩
  | 6 => ⟨S_, .f32⟩
  | 7 => ⟨S2048, .f32⟩
  | 8 => ⟨S2048, .f32⟩
  | 9 => ⟨S1x2048, .f32⟩
  | 10 => ⟨S2x2048, .f32⟩
  | 11 => ⟨S2x2048, .f32⟩
  | 12 => ⟨S2x2048, .f32⟩
  | 13 => ⟨S_, .f32⟩
  | 14 => ⟨S2048, .f32⟩
  | 15 => ⟨S1x2048, .f32⟩
  | 16 => ⟨S2x2048, .f32⟩
  | 17 => ⟨S2x2048, .f32⟩
  | 18 => ⟨S_, .f32⟩
  | 19 => ⟨S_, .f32⟩
  | 20 => ⟨S2x2048, .f32⟩
  | 21 => ⟨S1x2048, .f32⟩
  | 22 => ⟨S2048, .f32⟩
  | 23 => ⟨S8x16x15360, .f32⟩
  | 24 => ⟨S8x16x2048, .f32⟩
  | 25 => ⟨S8x16x2048, .f32⟩
  | 26 => ⟨S8x16x2048, .f32⟩
  | 27 => ⟨S8x16x2048, .f32⟩
  | 28 => ⟨S8x16x7168, .f32⟩
  | 29 => ⟨S_, .f32⟩
  | 30 => ⟨S2048, .f32⟩
  | 31 => ⟨S2048, .f32⟩
  | 32 => ⟨S8x16x2048, .f32⟩
  | 33 => ⟨S8x16x2048, .f32⟩
  | 34 => ⟨S_, .f32⟩
  | 35 => ⟨S8x16x2048, .f32⟩
  | 36 => ⟨S8x16x2048, .f32⟩
  | 37 => ⟨S_, .f32⟩
  | 38 => ⟨S8x16x2048, .f32⟩
  | 39 => ⟨S8x16x2048, .f32⟩
  | 40 => ⟨S1x1x2048, .f32⟩
  | 41 => ⟨S8x16x2048, .f32⟩
  | 42 => ⟨S8x16x2048, .f32⟩
  | 43 => ⟨S1x1x2048, .f32⟩
  | 44 => ⟨S8x16x2048, .f32⟩
  | 45 => ⟨S8x16x2048, .f32⟩
  | 46 => ⟨S8x16x2048, .f32⟩
  | 47 => ⟨S_, .f32⟩
  | 48 => ⟨S2048, .f32⟩
  | 49 => ⟨S2048, .f32⟩
  | 50 => ⟨S8x16x2048, .f32⟩
  | 51 => ⟨S8x16x2048, .f32⟩
  | 52 => ⟨S8x16x2048, .f32⟩
  | 53 => ⟨S_, .f32⟩
  | 54 => ⟨S8x16x2048, .f32⟩
  | 55 => ⟨S8x16x2048, .f32⟩
  | 56 => ⟨S_, .f32⟩
  | 57 => ⟨S8x16x2048, .f32⟩
  | 58 => ⟨S8x16x2048, .f32⟩
  | 59 => ⟨S1x1x2048, .f32⟩
  | 60 => ⟨S8x16x2048, .f32⟩
  | 61 => ⟨S8x16x2048, .f32⟩
  | 62 => ⟨S8x16x16x128, .f32⟩
  | 63 => ⟨S8x16x16x128, .f32⟩
  | 64 => ⟨S8x16x16x128, .f32⟩
  | 65 => ⟨S8x16x16x128, .f32⟩
  | 66 => ⟨S8x16x128x128, .f32⟩
  | 67 => ⟨S_, .i1⟩
  | 68 => ⟨S16x16, .i1⟩
  | 69 => ⟨S16x16, .i32⟩
  | 70 => ⟨S_, .i32⟩
  | 71 => ⟨S16x16, .i32⟩
  | 72 => ⟨S16x16, .i32⟩
  | 73 => ⟨S16x16, .i32⟩
  | 74 => ⟨S16x16, .i1⟩
  | 75 => ⟨S_, .i1⟩
  | 76 => ⟨S16x16, .i1⟩
  | 77 => ⟨S16x16, .i1⟩
  | 78 => ⟨S1x1x16x16x1, .i1⟩
  | 79 => ⟨S8x16x16x128, .f32⟩
  | 80 => ⟨S8x16x16x128, .f32⟩
  | 81 => ⟨S8x16x16x128, .f32⟩
  | 82 => ⟨S8x16x16x128, .f32⟩
  | 83 => ⟨S_, .f32⟩
  | 84 => ⟨S_, .f32⟩
  | 85 => ⟨S8x16x16x128, .f32⟩
  | 86 => ⟨S8x16x16x1x128, .f32⟩
  | 87 => ⟨S8x16x1x16x128, .f32⟩
  | 88 => ⟨S8x16x16x16x128, .f32⟩
  | 89 => ⟨S8x16x16x16x128, .f32⟩
  | 90 => ⟨S8x16x16x16x128, .f32⟩
  | 91 => ⟨S_, .f32⟩
  | 92 => ⟨S_, .f32⟩
  | 93 => ⟨S8x16x16x16x128, .i1⟩
  | 94 => ⟨S8x16x16x16x128, .f32⟩
  | 95 => ⟨S8x16x16x16x128, .f32⟩
  | 96 => ⟨S8x16x16x16x128, .f32⟩
  | 97 => ⟨S8x16x16x1x128, .f32⟩
  | 98 => ⟨S8x16x1x16x128, .f32⟩
  | 99 => ⟨S8x16x16x16x128, .f32⟩
  | 100 => ⟨S8x16x16x16x128, .f32⟩
  | 101 => ⟨S8x16x16x16x128, .f32⟩
  | 102 => ⟨S8x16x16x16x128, .f32⟩
  | 103 => ⟨S_, .f32⟩
  | 104 => ⟨S8x16x16x16, .f32⟩
  | 105 => ⟨S8x16x16x128, .f32⟩
  | 106 => ⟨S8x16x16x128, .f32⟩
  | 107 => ⟨S8x16x16x128, .f32⟩
  | 108 => ⟨S8x16x16x128, .f32⟩
  | 109 => ⟨S8x16x16x128, .f32⟩
  | 110 => ⟨S8x16x1x128, .f32⟩
  | 111 => ⟨S8x16x128, .f32⟩
  | 112 => ⟨S8x16x128, .f32⟩
  | 113 => ⟨S8x16x128x1, .f32⟩
  | 114 => ⟨S8x16x128x128, .f32⟩
  | 115 => ⟨S8x16x128x128, .f32⟩
  | 116 => ⟨S8x16x16x128, .f32⟩
  | 117 => ⟨S8x16x16x128, .f32⟩
  | 118 => ⟨S8x16x16x128, .f32⟩
  | 119 => ⟨S8x16x16x128, .f32⟩
  | 120 => ⟨S8x16x128x128, .f32⟩
  | 121 => ⟨S8x16x128x128, .f32⟩
  | 122 => ⟨S8x16x16x128, .f32⟩
  | 123 => ⟨S8x16x16x128, .f32⟩
  | 124 => ⟨S_, .f32⟩
  | 125 => ⟨S8x16x16, .f32⟩
  | 126 => ⟨S8x16x16x1, .f32⟩
  | 127 => ⟨S_, .f32⟩
  | _ => ⟨S128x15360, .f32⟩

abbrev hbmTy0_1 (i : Nat) : BufTy := match i % 128 with
  | 0 => ⟨S8x16x16x1, .f32⟩
  | 1 => ⟨S8x16x16x1, .f32⟩
  | 2 => ⟨S_, .f32⟩
  | 3 => ⟨S8x16x16x1, .f32⟩
  | 4 => ⟨S8x16x16x1, .f32⟩
  | 5 => ⟨S8x16x16x1, .f32⟩
  | 6 => ⟨S8x16x16x128, .f32⟩
  | 7 => ⟨S8x16x16x128, .f32⟩
  | 8 => ⟨S8x16x2048, .f32⟩
  | 9 => ⟨S2048, .f32⟩
  | 10 => ⟨S1x1x2048, .f32⟩
  | 11 => ⟨S8x16x2048, .f32⟩
  | 12 => ⟨S8x16x2048, .f32⟩
  | 13 => ⟨S8x16x2048, .f32⟩
  | 14 => ⟨S8x16x2048, .f32⟩
  | 15 => ⟨S_, .f32⟩
  | 16 => ⟨S8x16x2048, .f32⟩
  | 17 => ⟨S8x16x2048, .f32⟩
  | 18 => ⟨S_, .f32⟩
  | 19 => ⟨S8x16x2048, .f32⟩
  | 20 => ⟨S8x16x2048, .f32⟩
  | 21 => ⟨S8x16x2048, .f32⟩
  | 22 => ⟨S8x16x2048, .f32⟩
  | 23 => ⟨S128x2048, .f32⟩
  | 24 => ⟨S128x2048, .bf16⟩
  | _ => ⟨S128x15360, .f32⟩

abbrev hbmTy (i : Nat) : BufTy := match i / 128 with
  | 0 => hbmTy0_0 i
  | 1 => hbmTy0_1 i
  | _ => ⟨S128x15360, .f32⟩

abbrev bufTy : (tb : Table) → Fin (tcTables nBuf tb) → BufTy
  | .hbm, ⟨i, _⟩ => hbmTy i
  | _, _ => ⟨S128x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c : Ref sig .tc := ⟨.hbm, 67, rfl⟩
abbrev main_v52 : Ref sig .tc := ⟨.hbm, 68, rfl⟩
abbrev main_call1_v0 : Ref sig .tc := ⟨.hbm, 69, rfl⟩
abbrev main_call1_c : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_c_0 : Ref sig .tc := ⟨.hbm, 75, rfl⟩
abbrev main_call1_v5 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call2_call0_cst : Ref sig .tc := ⟨.hbm, 83, rfl⟩
abbrev main_call2_call0_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_8 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_9 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_10 : Ref sig .tc := ⟨.hbm, 124, rfl⟩
abbrev main_v93 : Ref sig .tc := ⟨.hbm, 125, rfl⟩
abbrev main_v94 : Ref sig .tc := ⟨.hbm, 126, rfl⟩
abbrev main_cst_11 : Ref sig .tc := ⟨.hbm, 127, rfl⟩
abbrev main_v95 : Ref sig .tc := ⟨.hbm, 128, rfl⟩
abbrev main_v96 : Ref sig .tc := ⟨.hbm, 129, rfl⟩
abbrev main_cst_12 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_call4_v0 : Ref sig .tc := ⟨.hbm, 141, rfl⟩
abbrev main_call4_v1 : Ref sig .tc := ⟨.hbm, 142, rfl⟩
abbrev main_call4_cst : Ref sig .tc := ⟨.hbm, 143, rfl⟩
abbrev main_call4_v2 : Ref sig .tc := ⟨.hbm, 144, rfl⟩
abbrev main_call4_v3 : Ref sig .tc := ⟨.hbm, 145, rfl⟩
abbrev main_call4_cst_0 : Ref sig .tc := ⟨.hbm, 146, rfl⟩
abbrev main_call4_v4 : Ref sig .tc := ⟨.hbm, 147, rfl⟩
abbrev main_call4_v5 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩

abbrev nD : Nat := 1
abbrev τ : Topo := Topo.v7x

variable {F : FTy → Type} [FloatOps F]
-- ==== Kernel2.lean ====
abbrev S1x16384x4096 : Shape := ⟨3, ![1, 16384, 4096]⟩
abbrev S1x4096x22016 : Shape := ⟨3, ![1, 4096, 22016]⟩
abbrev S16384x4096 : Shape := ⟨2, ![16384, 4096]⟩
abbrev S4096x22016 : Shape := ⟨2, ![4096, 22016]⟩
abbrev S16384x11008 : Shape := ⟨2, ![16384, 11008]⟩
abbrev S2048x4096 : Shape := ⟨2, ![2048, 4096]⟩
abbrev S4096x256 : Shape := ⟨2, ![4096, 256]⟩
abbrev S2048x256 : Shape := ⟨2, ![2048, 256]⟩

abbrev nBuf : Space → Nat
  | .hbm => 7
  | .vmem => 8
  | .smem => 0
  | _ => 0

abbrev bufTy : (tb : Table) → Fin (tcTables nBuf tb) → BufTy
  | .hbm, ⟨0, _⟩ => ⟨S1x16384x4096, .f32⟩
  | .hbm, ⟨1, _⟩ => ⟨S1x4096x22016, .f32⟩
  | .hbm, ⟨2, _⟩ => ⟨S16384x4096, .f32⟩
  | .hbm, ⟨3, _⟩ => ⟨S16384x4096, .bf16⟩
  | .hbm, ⟨4, _⟩ => ⟨S4096x22016, .f32⟩
  | .hbm, ⟨5, _⟩ => ⟨S4096x22016, .bf16⟩
  | .hbm, ⟨6, _⟩ => ⟨S16384x11008, .bf16⟩
  | .local _ .vmem, ⟨0, _⟩ => ⟨S2048x4096, .bf16⟩
  | .local _ .vmem, ⟨1, _⟩ => ⟨S2048x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S2048x256, .bf16⟩
  | .local _ .vmem, ⟨7, _⟩ => ⟨S2048x256, .bf16⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S1x16384x4096 : Shape := ⟨3, ![1, 16384, 4096]⟩
abbrev S1x4096x22016 : Shape := ⟨3, ![1, 4096, 22016]⟩
abbrev S4096x22016 : Shape := ⟨2, ![4096, 22016]⟩
abbrev S1x16384x22016 : Shape := ⟨3, ![1, 16384, 22016]⟩
abbrev S1x16384x11008 : Shape := ⟨3, ![1, 16384, 11008]⟩
abbrev S_ : Shape := ⟨0, ![]⟩
abbrev S16384x11008 : Shape := ⟨2, ![16384, 11008]⟩

abbrev nBuf : Space → Nat
  | .hbm => 18
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1x4096x22016, .f32⟩
  | .hbm, ⟨2, _⟩ => ⟨S4096x22016, .f32⟩
  | .hbm, ⟨3, _⟩ => ⟨S1x16384x22016, .f32⟩
  | .hbm, ⟨4, _⟩ => ⟨S1x16384x11008, .f32⟩
  | .hbm, ⟨5, _⟩ => ⟨S1x16384x11008, .f32⟩
  | .hbm, ⟨6, _⟩ => ⟨S1x16384x11008, .f32⟩
  | .hbm, ⟨7, _⟩ => ⟨S1x16384x11008, .f32⟩
  | .hbm, ⟨8, _⟩ => ⟨S_, .f32⟩
  | .hbm, ⟨9, _⟩ => ⟨S1x16384x11008, .f32⟩
  | .hbm, ⟨10, _⟩ => ⟨S1x16384x11008, .f32⟩
  | .hbm, ⟨11, _⟩ => ⟨S_, .f32⟩
  | .hbm, ⟨12, _⟩ => ⟨S1x16384x11008, .f32⟩
  | .hbm, ⟨13, _⟩ => ⟨S1x16384x11008, .f32⟩
  | .hbm, ⟨14, _⟩ => ⟨S1x16384x11008, .f32⟩
  | .hbm, ⟨15, _⟩ => ⟨S1x16384x11008, .f32⟩
  | .hbm, ⟨16, _⟩ => ⟨S16384x11008, .f32⟩
  | .hbm, ⟨17, _⟩ => ⟨S16384x11008, .bf16⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel3.lean ====
abbrev S16384x11008 : Shape := ⟨2, ![16384, 11008]⟩
abbrev S1x11008x4096 : Shape := ⟨3, ![1, 11008, 4096]⟩
abbrev S16384x4096 : Shape := ⟨2, ![16384, 4096]⟩
abbrev S1x4096 : Shape := ⟨2, ![1, 4096]⟩
abbrev S11008x4096 : Shape := ⟨2, ![11008, 4096]⟩
abbrev S4096 : Shape := ⟨1, ![4096]⟩
abbrev S512x11008 : Shape := ⟨2, ![512, 11008]⟩
abbrev S11008x256 : Shape := ⟨2, ![11008, 256]⟩
abbrev S512x256 : Shape := ⟨2, ![512, 256]⟩
abbrev S512x4096 : Shape := ⟨2, ![512, 4096]⟩
abbrev S128x4096 : Shape := ⟨2, ![128, 4096]⟩
abbrev S128 : Shape := ⟨1, ![128]⟩
abbrev S128x1 : Shape := ⟨2, ![128, 1]⟩

abbrev nBuf : Space → Nat
  | .hbm => 13
  | .vmem => 10
  | .smem => 0
  | _ => 0

abbrev bufTy : (tb : Table) → Fin (tcTables nBuf tb) → BufTy
  | .hbm, ⟨0, _⟩ => ⟨S16384x11008, .f32⟩
  | .hbm, ⟨1, _⟩ => ⟨S1x11008x4096, .f32⟩
  | .hbm, ⟨2, _⟩ => ⟨S16384x4096, .f32⟩
  | .hbm, ⟨3, _⟩ => ⟨S1x4096, .f32⟩
  | .hbm, ⟨4, _⟩ => ⟨S1x4096, .f32⟩
  | .hbm, ⟨5, _⟩ => ⟨S16384x11008, .bf16⟩
  | .hbm, ⟨6, _⟩ => ⟨S11008x4096, .f32⟩
  | .hbm, ⟨7, _⟩ => ⟨S11008x4096, .bf16⟩
  | .hbm, ⟨8, _⟩ => ⟨S4096, .f32⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x256, .bf16⟩
  | .local _ .vmem, ⟨3, _⟩ => ⟨S11008x256, .bf16⟩
  | .local _ .vmem, ⟨4, _⟩ => ⟨S512x256, .f32⟩
  | .local _ .vmem, ⟨5, _⟩ => ⟨S512x256, .f32⟩
  | .local _ .vmem, ⟨6, _⟩ => ⟨S1x4096, .f32⟩
  | .local _ .vmem, ⟨7, _⟩ => ⟨S1x4096, .f32⟩
  | .local _ .vmem, ⟨8, _⟩ => ⟨S512x4096, .f32⟩
  | .local _ .vmem, ⟨9, _⟩ => ⟨S512x4096, .f32⟩
  | _, _ => ⟨S16384x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 16], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let c0_7 : Index := 0#32
  let arg1 : BitVec 32 := BitVec.ofNat 32 (i 1).val
  let c256_i32 : BitVec 32 := 256#32
  let v0 : BitVec 32 := Scalar.muli arg1 c256_i32
  let v1 : BitVec 32 := v0
  let v13 : Index := Scalar.indexCast v1
  ![0, v13.toNat]
def k0_cond1 (i : grid0.Coords) : BitVec 1 :=
  let arg1 : BitVec 32 := BitVec.ofNat 32 (i 1).val
  let c15_i32 : BitVec 32 := 15#32
  let v15 : BitVec 1 := Scalar.cmpi .eq arg1 c15_i32
  let v16 : BitVec 32 := Scalar.extui v15
  let c0_i32 : BitVec 32 := 0#32
  let v17 : BitVec 1 := Scalar.cmpi .ne v16 c0_i32
  v17

@[reducible] def k0_t1_loop : Scf.Loop 32 :=
  let c0_i32_12 : BitVec 32 := 0#32
  let c4_i32 : BitVec 32 := 4#32
  let v22 : BitVec 32 := Scalar.addi c0_i32_12 c4_i32
  let c1_i32 : BitVec 32 := 1#32
  ⟨c0_i32_12, v22, c1_i32⟩
def k0_mult2 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c128_i32 : BitVec 32 := 128#32
  let v23 : BitVec 32 := Scalar.muli arg8 c128_i32
  v23
def k0_off2 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c128_i32 : BitVec 32 := 128#32
  let v23 : BitVec 32 := Scalar.muli arg8 c128_i32
  let v24 : BitVec 32 := v23
  let v25 : Index := Scalar.indexCast v24
  let c0_14 : Index := 0#32
  ![v25.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S16384x11008 : Shape := ⟨2, ![16384, 11008]⟩
abbrev S1x11008x4096 : Shape := ⟨3, ![1, 11008, 4096]⟩
abbrev S16384x4096 : Shape := ⟨2, ![16384, 4096]⟩
abbrev S1x4096 : Shape := ⟨2, ![1, 4096]⟩
abbrev S_ : Shape := ⟨0, ![]⟩
abbrev S11008x4096 : Shape := ⟨2, ![11008, 4096]⟩
abbrev S4096 : Shape := ⟨1, ![4096]⟩
abbrev S16384 : Shape := ⟨1, ![16384]⟩
abbrev S16384x1 : Shape := ⟨2, ![16384, 1]⟩

abbrev nBuf : Space → Nat
  | .hbm => 45
  | .vmem => 0
  | .smem => 0
  | _ => 0

abbrev bufTy : (tb : Table) → Fin (tcTables nBuf tb) → BufTy
  | .hbm, ⟨0, _⟩ => ⟨S16384x11008, .f32⟩
  | .hbm, ⟨1, _⟩ => ⟨S1x11008x4096, .f32⟩
  | .hbm, ⟨2, _⟩ => ⟨S16384x4096, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S11008x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x4096, .f32⟩
  | .hbm, ⟨32, _⟩ => ⟨S16384x4096, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x4096, .f32⟩
  | .hbm, ⟨38, _⟩ => ⟨S16384x4096, .f32⟩
  | .hbm, ⟨39, _⟩ => ⟨S1x4096, .f32⟩
  | .hbm, ⟨40, _⟩ => ⟨S16384x4096, .f32⟩
  | .hbm, ⟨41, _⟩ => ⟨S16384x4096, .f32⟩
  | .hbm, ⟨42, _⟩ => ⟨S1x4096, .f32⟩
  | .hbm, ⟨43, _⟩ => ⟨S16384x4096, .f32⟩
  | .hbm, ⟨44, _⟩ => ⟨S16384x4096, .f32⟩
  | _, _ => ⟨S16384x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel4.lean ====
abbrev S16384x4096 : Shape := ⟨2, ![16384, 4096]⟩
abbrev S1x4096x23264 : Shape := ⟨3, ![1, 4096, 23264]⟩
abbrev S4096x23264 : Shape := ⟨2, ![4096, 23264]⟩
abbrev S16384x15360 : Shape := ⟨2, ![16384, 15360]⟩
abbrev S1024x4096 : Shape := ⟨2, ![1024, 4096]⟩
abbrev S4096x1024 : Shape := ⟨2, ![4096, 1024]⟩
abbrev S1024x1024 : Shape := ⟨2, ![1024, 1024]⟩
abbrev S1x16384x15360 : Shape := ⟨3, ![1, 16384, 15360]⟩
abbrev S1x1x15360 : Shape := ⟨3, ![1, 1, 15360]⟩
abbrev S1x1x6880 : Shape := ⟨3, ![1, 1, 6880]⟩

abbrev nBuf : Space → Nat
  | .hbm => 9
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S1x4096x23264, .f32⟩
  | .hbm, ⟨2, _⟩ => ⟨S16384x4096, .bf16⟩
  | .hbm, ⟨3, _⟩ => ⟨S4096x23264, .f32⟩
  | .hbm, ⟨4, _⟩ => ⟨S4096x23264, .bf16⟩
  | .hbm, ⟨5, _⟩ => ⟨S16384x15360, .f32⟩
  | .hbm, ⟨6, _⟩ => ⟨S1x16384x15360, .f32⟩
  | .hbm, ⟨7, _⟩ => ⟨S1x1x15360, .f32⟩
  | .hbm, ⟨8, _⟩ => ⟨S1x1x6880, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 15], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x4096 : Shape := ⟨2, ![16384, 4096]⟩
abbrev S1x4096x23264 : Shape := ⟨3, ![1, 4096, 23264]⟩
abbrev S4096x23264 : Shape := ⟨2, ![4096, 23264]⟩
abbrev S16384x23264 : Shape := ⟨2, ![16384, 23264]⟩
abbrev S1x16384x23264 : Shape := ⟨3, ![1, 16384, 23264]⟩
abbrev S1x1x6880 : Shape := ⟨3, ![1, 1, 6880]⟩
abbrev S16384x15360 : Shape := ⟨2, ![16384, 15360]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096x23264, .f32⟩
  | .hbm, ⟨2, _⟩ => ⟨S4096x23264, .f32⟩
  | .hbm, ⟨3, _⟩ => ⟨S16384x23264, .f32⟩
  | .hbm, ⟨4, _⟩ => ⟨S1x16384x23264, .f32⟩
  | .hbm, ⟨5, _⟩ => ⟨S1x1x6880, .f32⟩
  | .hbm, ⟨6, _⟩ => ⟨S16384x15360, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S16384x2048 : Shape := ⟨2, ![16384, 2048]⟩
abbrev S16384x8192 : Shape := ⟨2, ![16384, 8192]⟩
abbrev S1x2048x4096 : Shape := ⟨3, ![1, 2048, 4096]⟩
abbrev S2048x4096 : Shape := ⟨2, ![2048, 4096]⟩
abbrev S16384x4096 : Shape := ⟨2, ![16384, 4096]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 10
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x8192, .f32⟩
  | .hbm, ⟨3, _⟩ => ⟨S1x2048x4096, .f32⟩
  | .hbm, ⟨4, _⟩ => ⟨S1x2048x4096, .f32⟩
  | .hbm, ⟨5, _⟩ => ⟨S2048x4096, .f32⟩
  | .hbm, ⟨6, _⟩ => ⟨S2048x4096, .bf16⟩
  | .hbm, ⟨7, _⟩ => ⟨S2048x4096, .f32⟩
  | .hbm, ⟨8, _⟩ => ⟨S2048x4096, .bf16⟩
  | .hbm, ⟨9, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S1024x512, .bf16⟩
  | .local _ .vmem, ⟨13, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S16384x2048 : Shape := ⟨2, ![16384, 2048]⟩
abbrev S16384x8192 : Shape := ⟨2, ![16384, 8192]⟩
abbrev S1x2048x4096 : Shape := ⟨3, ![1, 2048, 4096]⟩
abbrev S16384x4096 : Shape := ⟨2, ![16384, 4096]⟩
abbrev S2048x4096 : Shape := ⟨2, ![2048, 4096]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x8192, .f32⟩
  | .hbm, ⟨3, _⟩ => ⟨S1x2048x4096, .f32⟩
  | .hbm, ⟨4, _⟩ => ⟨S1x2048x4096, .f32⟩
  | .hbm, ⟨5, _⟩ => ⟨S16384x4096, .f32⟩
  | .hbm, ⟨6, _⟩ => ⟨S16384x4096, .f32⟩
  | .hbm, ⟨7, _⟩ => ⟨S16384x2048, .f32⟩
  | .hbm, ⟨8, _⟩ => ⟨S2048x4096, .f32⟩
  | .hbm, ⟨9, _⟩ => ⟨S16384x4096, .f32⟩
  | .hbm, ⟨10, _⟩ => ⟨S16384x2048, .f32⟩
  | .hbm, ⟨11, _⟩ => ⟨S2048x4096, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S_, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel7.lean ====
abbrev S16384x15360 : Shape := ⟨2, ![16384, 15360]⟩
abbrev S16384x4096 : Shape := ⟨2, ![16384, 4096]⟩
abbrev S1x4096x23264 : Shape := ⟨3, ![1, 4096, 23264]⟩
abbrev S2x2048 : Shape := ⟨2, ![2, 2048]⟩
abbrev S1x2048 : Shape := ⟨2, ![1, 2048]⟩
abbrev S_ : Shape := ⟨0, ![]⟩
abbrev S2048 : Shape := ⟨1, ![2048]⟩
abbrev S4096x23264 : Shape := ⟨2, ![4096, 23264]⟩
abbrev S4096x8192 : Shape := ⟨2, ![4096, 8192]⟩
abbrev S1x16x128x128 : Shape := ⟨4, ![1, 16, 128, 128]⟩
abbrev S16384x8192 : Shape := ⟨2, ![16384, 8192]⟩
abbrev S16384x2048 : Shape := ⟨2, ![16384, 2048]⟩
abbrev S1024x4096 : Shape := ⟨2, ![1024, 4096]⟩
abbrev S4096x512 : Shape := ⟨2, ![4096, 512]⟩
abbrev S256x512 : Shape := ⟨2, ![256, 512]⟩
abbrev S1x512 : Shape := ⟨2, ![1, 512]⟩
abbrev S1x4x128x128 : Shape := ⟨4, ![1, 4, 128, 128]⟩
abbrev S1024x512 : Shape := ⟨2, ![1024, 512]⟩
abbrev S1x1x128x128 : Shape := ⟨4, ![1, 1, 128, 128]⟩
abbrev S128x128 : Shape := ⟨2, ![128, 128]⟩
abbrev S256x128 : Shape := ⟨2, ![256, 128]⟩
abbrev S1024x128 : Shape := ⟨2, ![1024, 128]⟩
abbrev S1024x1 : Shape := ⟨2, ![1024, 1]⟩
abbrev S64x16x128 : Shape := ⟨3, ![64, 16, 128]⟩
abbrev S64x1x128 : Shape := ⟨3, ![64, 1, 128]⟩
abbrev S1x8x1 : Shape := ⟨3, ![1, 8, 1]⟩
abbrev S64x8x128 : Shape := ⟨3, ![64, 8, 128]⟩
abbrev S256x4096 : Shape := ⟨2, ![256, 4096]⟩
abbrev S64x8 : Shape := ⟨2, ![64, 8]⟩
abbrev S64x8x1 : Shape := ⟨3, ![64, 8, 1]⟩
abbrev S16x128 : Shape := ⟨2, ![16, 128]⟩
abbrev S1x1x128 : Shape := ⟨3, ![1, 1, 128]⟩
abbrev S1x128 : Shape := ⟨2, ![1, 128]⟩
abbrev S1024 : Shape := ⟨1, ![1024]⟩

abbrev nBuf : Space → Nat
  | .hbm => 36
  | .vmem => 25
  | .smem => 0
  | _ => 0

abbrev bufTy : (tb : Table) → Fin (tcTables nBuf tb) → BufTy
  | .hbm, ⟨0, _⟩ => ⟨S16384x15360, .f32⟩
  | .hbm, ⟨1, _⟩ => ⟨S16384x4096, .f32⟩
  | .hbm, ⟨2, _⟩ => ⟨S1x4096x23264, .f32⟩
  | .hbm, ⟨3, _⟩ => ⟨S2x2048, .f32⟩
  | .hbm, ⟨4, _⟩ => ⟨S1x2048, .f32⟩
  | .hbm, ⟨5, _⟩ => ⟨S_, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S1x2048, .f32⟩
  | .hbm, ⟨11, _⟩ => ⟨S2x2048, .f32⟩
  | .hbm, ⟨12, _⟩ => ⟨S2x2048, .f32⟩
  | .hbm, ⟨13, _⟩ => ⟨S2x2048, .f32⟩
  | .hbm, ⟨14, _⟩ => ⟨S_, .f32⟩
  | .hbm, ⟨15, _⟩ => ⟨S2048, .f32⟩
  | .hbm, ⟨16, _⟩ => ⟨S1x2048, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S_, .f32⟩
  | .hbm, ⟨21, _⟩ => ⟨S2x2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S4096x23264, .f32⟩
  | .hbm, ⟨26, _⟩ => ⟨S4096x23264, .bf16⟩
  | .hbm, ⟨27, _⟩ => ⟨S4096x8192, .bf16⟩
  | .hbm, ⟨28, _⟩ => ⟨S_, .f32⟩
  | .hbm, ⟨29, _⟩ => ⟨S1x16x128x128, .f32⟩
  | .hbm, ⟨30, _⟩ => ⟨S16384x4096, .bf16⟩
  | .hbm, ⟨31, _⟩ => ⟨S2048, .f32⟩
  | .hbm, ⟨32, _⟩ => ⟨S1x2048, .f32⟩
  | .hbm, ⟨33, _⟩ => ⟨S16384x8192, .f32⟩
  | .hbm, ⟨34, _⟩ => ⟨S16384x2048, .bf16⟩
  | .hbm, ⟨35, _⟩ => ⟨S1x16x128x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x4x128x128, .f32⟩
  | .local _ .vmem, ⟨17, _⟩ => ⟨S1x4x128x128, .f32⟩
  | .local _ .vmem, ⟨18, _⟩ => ⟨S1024x512, .f32⟩
  | .local _ .vmem, ⟨19, _⟩ => ⟨S1024x512, .f32⟩
  | .local _ .vmem, ⟨20, _⟩ => ⟨S256x512, .bf16⟩
  | .local _ .vmem, ⟨21, _⟩ => ⟨S256x512, .bf16⟩
  | .local _ .vmem, ⟨22, _⟩ => ⟨S1x4x128x128, .f32⟩
  | .local _ .vmem, ⟨23, _⟩ => ⟨S1x4x128x128, .f32⟩
  | .local _ .vmem, ⟨24, _⟩ => ⟨S1x4x128x128, .f32⟩
  | _, _ => ⟨S16384x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_call0_cst : Ref sig .tc := ⟨.hbm, 19, rfl⟩
abbrev main_call0_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c63_i32 : BitVec 32 := 63#32
  let v1524 : BitVec 1 := Scalar.cmpi .eq v9 c63_i32
  let v1525 : BitVec 32 := Scalar.extui v1524
  let c0_i32_276 : BitVec 32 := 0#32
  let v1526 : BitVec 1 := Scalar.cmpi .ne v1525 c0_i32_276
  v1526

def cc0_transform_0 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_1 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_2 (i : grid0.Coords) : Fin 2 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c64_i32_3 : BitVec 32 := 64#32
  let v10 : BitVec 32 := Scalar.divsi arg0 c64_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c64_i32_3 c0_i32_6
  let v17 : BitVec 32 := Scalar.extui v16
  let c0_i32_7 : BitVec 32 := 0#32
  let v18 : BitVec 1 := Scalar.cmpi .slt c64_i32_3 c0_i32_7
  let v19 : BitVec 32 := Scalar.extui v18
  let v20 : BitVec 32 := Scalar.subi v17 v19
  let v21 : BitVec 1 := Scalar.cmpi .ne v15 v20
  let v22 : BitVec 32 := Scalar.remsi arg0 c64_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let v27 : BitVec 32 := Scalar.addi c0_i32_10 v26
  let c0_i32_11 : BitVec 32 := 0#32
  ![v9.toNat, v27.toNat]

def cc0_transform_3 (i : grid0.Coords) : Fin 2 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c64_i32_3 : BitVec 32 := 64#32
  let v10 : BitVec 32 := Scalar.divsi arg0 c64_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c64_i32_3 c0_i32_6
  let v17 : BitVec 32 := Scalar.extui v16
  let c0_i32_7 : BitVec 32 := 0#32
  let v18 : BitVec 1 := Scalar.cmpi .slt c64_i32_3 c0_i32_7
  let v19 : BitVec 32 := Scalar.extui v18
  let v20 : BitVec 32 := Scalar.subi v17 v19
  let v21 : BitVec 1 := Scalar.cmpi .ne v15 v20
  let v22 : BitVec 32 := Scalar.remsi arg0 c64_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c4_i32 : BitVec 32 := 4#32
  let v27 : BitVec 32 := Scalar.addi c4_i32 v26
  let c0_i32_10 : BitVec 32 := 0#32
  ![v9.toNat, v27.toNat]

def cc0_transform_4 (i : grid0.Coords) : Fin 2 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c64_i32_3 : BitVec 32 := 64#32
  let v10 : BitVec 32 := Scalar.divsi arg0 c64_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c64_i32_3 c0_i32_6
  let v17 : BitVec 32 := Scalar.extui v16
  let c0_i32_7 : BitVec 32 := 0#32
  let v18 : BitVec 1 := Scalar.cmpi .slt c64_i32_3 c0_i32_7
  let v19 : BitVec 32 := Scalar.extui v18
  let v20 : BitVec 32 := Scalar.subi v17 v19
  let v21 : BitVec 1 := Scalar.cmpi .ne v15 v20
  let v22 : BitVec 32 := Scalar.remsi arg0 c64_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c8_i32 : BitVec 32 := 8#32
  let v27 : BitVec 32 := Scalar.addi c8_i32 v26
  let c0_i32_10 : BitVec 32 := 0#32
  ![v9.toNat, v27.toNat]

def cc0_transform_5 (i : grid0.Coords) : Fin 2 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c64_i32_3 : BitVec 32 := 64#32
  let v10 : BitVec 32 := Scalar.divsi arg0 c64_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c64_i32_3 c0_i32_6
  let v17 : BitVec 32 := Scalar.extui v16
  let c0_i32_7 : BitVec 32 := 0#32
  let v18 : BitVec 1 := Scalar.cmpi .slt c64_i32_3 c0_i32_7
  let v19 : BitVec 32 := Scalar.extui v18
  let v20 : BitVec 32 := Scalar.subi v17 v19
  let v21 : BitVec 1 := Scalar.cmpi .ne v15 v20
  let v22 : BitVec 32 := Scalar.remsi arg0 c64_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c12_i32 : BitVec 32 := 12#32
  let v27 : BitVec 32 := Scalar.addi c12_i32 v26
  let c0_i32_10 : BitVec 32 := 0#32
  ![v9.toNat, v27.toNat]

def cc0_transform_6 (i : grid0.Coords) : Fin 2 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_7 (i : grid0.Coords) : Fin 2 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_8 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_9 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

def cc0_transform_10 (i : grid0.Coords) : Fin 2 → Nat :=
  let arg0 : BitVec 32 := BitVec.ofNat 32 (i 0).val
  let c64_i32 : BitVec 32 := 64#32
  let c0_i32 : BitVec 32 := 0#32
  let v0 : BitVec 1 := Scalar.cmpi .eq c64_i32 c0_i32
  let c1_i32 : BitVec 32 := 1#32
  let v1 : BitVec 32 := Scalar.select v0 c1_i32 c64_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c64_i32_3 : BitVec 32 := 64#32
  let v10 : BitVec 32 := Scalar.divsi arg0 c64_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c64_i32_3 c0_i32_6
  let v17 : BitVec 32 := Scalar.extui v16
  let c0_i32_7 : BitVec 32 := 0#32
  let v18 : BitVec 1 := Scalar.cmpi .slt c64_i32_3 c0_i32_7
  let v19 : BitVec 32 := Scalar.extui v18
  let v20 : BitVec 32 := Scalar.subi v17 v19
  let v21 : BitVec 1 := Scalar.cmpi .ne v15 v20
  let v22 : BitVec 32 := Scalar.remsi arg0 c64_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_11 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference7Ideal.lean ====
abbrev S16384x15360 : Shape := ⟨2, ![16384, 15360]⟩
abbrev S16384x4096 : Shape := ⟨2, ![16384, 4096]⟩
abbrev S1x4096x23264 : Shape := ⟨3, ![1, 4096, 23264]⟩
abbrev S2x2048 : Shape := ⟨2, ![2, 2048]⟩
abbrev S1x2048 : Shape := ⟨2, ![1, 2048]⟩
abbrev S4096x23264 : Shape := ⟨2, ![4096, 23264]⟩
abbrev S16384x23264 : Shape := ⟨2, ![16384, 23264]⟩
abbrev S16384x8192 : Shape := ⟨2, ![16384, 8192]⟩

abbrev nBuf : Space → Nat
  | .hbm => 8
  | .vmem => 0
  | .smem => 0
  | _ => 0

abbrev bufTy : (tb : Table) → Fin (tcTables nBuf tb) → BufTy
  | .hbm, ⟨0, _⟩ => ⟨S16384x15360, .f32⟩
  | .hbm, ⟨1, _⟩ => ⟨S16384x4096, .f32⟩
  | .hbm, ⟨2, _⟩ => ⟨S1x4096x23264, .f32⟩
  | .hbm, ⟨3, _⟩ => ⟨S2x2048, .f32⟩
  | .hbm, ⟨4, _⟩ => ⟨S1x2048, .f32⟩
  | .hbm, ⟨5, _⟩ => ⟨S4096x23264, .f32⟩
  | .hbm, ⟨6, _⟩ => ⟨S16384x23264, .f32⟩
  | .hbm, ⟨7, _⟩ => ⟨S16384x8192, .f32⟩
  | _, _ => ⟨S16384x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Kernel8.lean ====
abbrev S128x4096 : Shape := ⟨2, ![128, 4096]⟩
abbrev S1x4096x23264 : Shape := ⟨3, ![1, 4096, 23264]⟩
abbrev S4096x23264 : Shape := ⟨2, ![4096, 23264]⟩
abbrev S128x15360 : Shape := ⟨2, ![128, 15360]⟩
abbrev S4096x1024 : Shape := ⟨2, ![4096, 1024]⟩
abbrev S128x1024 : Shape := ⟨2, ![128, 1024]⟩
abbrev S8x16x15360 : Shape := ⟨3, ![8, 16, 15360]⟩
abbrev S8x1x15360 : Shape := ⟨3, ![8, 1, 15360]⟩
abbrev S8x1x6880 : Shape := ⟨3, ![8, 1, 6880]⟩

abbrev nBuf : Space → Nat
  | .hbm => 9
  | .vmem => 5
  | .smem => 0
  | _ => 0

abbrev bufTy : (tb : Table) → Fin (tcTables nBuf tb) → BufTy
  | .hbm, ⟨0, _⟩ => ⟨S128x4096, .f32⟩
  | .hbm, ⟨1, _⟩ => ⟨S1x4096x23264, .f32⟩
  | .hbm, ⟨2, _⟩ => ⟨S128x4096, .bf16⟩
  | .hbm, ⟨3, _⟩ => ⟨S4096x23264, .f32⟩
  | .hbm, ⟨4, _⟩ => ⟨S4096x23264, .bf16⟩
  | .hbm, ⟨5, _⟩ => ⟨S128x15360, .f32⟩
  | .hbm, ⟨6, _⟩ => ⟨S8x16x15360, .f32⟩
  | .hbm, ⟨7, _⟩ => ⟨S8x1x15360, .f32⟩
  | .hbm, ⟨8, _⟩ => ⟨S8x1x6880, .f32⟩
  | .local _ .vmem, ⟨0, _⟩ => ⟨S128x4096, .bf16⟩
  | .local _ .vmem, ⟨1, _⟩ => ⟨S4096x1024, .bf16⟩
  | .local _ .vmem, ⟨2, _⟩ => ⟨S4096x1024, .bf16⟩
  | .local _ .vmem, ⟨3, _⟩ => ⟨S128x1024, .f32⟩
  | .local _ .vmem, ⟨4, _⟩ => ⟨S128x1024, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 15], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S128x4096 : Shape := ⟨2, ![128, 4096]⟩
abbrev S1x4096x23264 : Shape := ⟨3, ![1, 4096, 23264]⟩
abbrev S4096x23264 : Shape := ⟨2, ![4096, 23264]⟩
abbrev S128x23264 : Shape := ⟨2, ![128, 23264]⟩
abbrev S8x16x23264 : Shape := ⟨3, ![8, 16, 23264]⟩
abbrev S8x1x6880 : Shape := ⟨3, ![8, 1, 6880]⟩
abbrev S128x15360 : Shape := ⟨2, ![128, 15360]⟩

abbrev nBuf : Space → Nat
  | .hbm => 7
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S1x4096x23264, .f32⟩
  | .hbm, ⟨2, _⟩ => ⟨S4096x23264, .f32⟩
  | .hbm, ⟨3, _⟩ => ⟨S128x23264, .f32⟩
  | .hbm, ⟨4, _⟩ => ⟨S8x16x23264, .f32⟩
  | .hbm, ⟨5, _⟩ => ⟨S8x1x6880, .f32⟩
  | .hbm, ⟨6, _⟩ => ⟨S128x15360, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S128x11008 : Shape := ⟨2, ![128, 11008]⟩
abbrev S1x11008x4096 : Shape := ⟨3, ![1, 11008, 4096]⟩
abbrev S128x4096 : Shape := ⟨2, ![128, 4096]⟩
abbrev S1x4096 : Shape := ⟨2, ![1, 4096]⟩
abbrev S11008x4096 : Shape := ⟨2, ![11008, 4096]⟩
abbrev S4096 : Shape := ⟨1, ![4096]⟩
abbrev S11008x256 : Shape := ⟨2, ![11008, 256]⟩
abbrev S128x256 : Shape := ⟨2, ![128, 256]⟩
abbrev S128 : Shape := ⟨1, ![128]⟩
abbrev S128x1 : Shape := ⟨2, ![128, 1]⟩

abbrev nBuf : Space → Nat
  | .hbm => 13
  | .vmem => 8
  | .smem => 0
  | _ => 0

abbrev bufTy : (tb : Table) → Fin (tcTables nBuf tb) → BufTy
  | .hbm, ⟨0, _⟩ => ⟨S128x11008, .f32⟩
  | .hbm, ⟨1, _⟩ => ⟨S1x11008x4096, .f32⟩
  | .hbm, ⟨2, _⟩ => ⟨S128x4096, .f32⟩
  | .hbm, ⟨3, _⟩ => ⟨S1x4096, .f32⟩
  | .hbm, ⟨4, _⟩ => ⟨S1x4096, .f32⟩
  | .hbm, ⟨5, _⟩ => ⟨S128x11008, .bf16⟩
  | .hbm, ⟨6, _⟩ => ⟨S11008x4096, .f32⟩
  | .hbm, ⟨7, _⟩ => ⟨S11008x4096, .bf16⟩
  | .hbm, ⟨8, _⟩ => ⟨S4096, .f32⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S128x4096, .f32⟩
  | .local _ .vmem, ⟨0, _⟩ => ⟨S128x11008, .bf16⟩
  | .local _ .vmem, ⟨1, _⟩ => ⟨S11008x256, .bf16⟩
  | .local _ .vmem, ⟨2, _⟩ => ⟨S11008x256, .bf16⟩
  | .local _ .vmem, ⟨3, _⟩ => ⟨S128x256, .f32⟩
  | .local _ .vmem, ⟨4, _⟩ => ⟨S128x256, .f32⟩
  | .local _ .vmem, ⟨5, _⟩ => ⟨S1x4096, .f32⟩
  | .local _ .vmem, ⟨6, _⟩ => ⟨S1x4096, .f32⟩
  | .local _ .vmem, ⟨7, _⟩ => ⟨S128x4096, .f32⟩
  | _, _ => ⟨S128x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 16], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let c0_7 : Index := 0#32
  let arg1 : BitVec 32 := BitVec.ofNat 32 (i 1).val
  let c256_i32 : BitVec 32 := 256#32
  let v0 : BitVec 32 := Scalar.muli arg1 c256_i32
  let v1 : BitVec 32 := v0
  let v13 : Index := Scalar.indexCast v1
  ![0, v13.toNat]
def k0_cond1 (i : grid0.Coords) : BitVec 1 :=
  let arg1 : BitVec 32 := BitVec.ofNat 32 (i 1).val
  let c15_i32 : BitVec 32 := 15#32
  let v15 : BitVec 1 := Scalar.cmpi .eq arg1 c15_i32
  let v16 : BitVec 32 := Scalar.extui v15
  let c0_i32 : BitVec 32 := 0#32
  let v17 : BitVec 1 := Scalar.cmpi .ne v16 c0_i32
  v17

def k0_mult2 : BitVec 32 :=
  let c0_i32_12 : BitVec 32 := 0#32
  let c128_i32 : BitVec 32 := 128#32
  let v22 : BitVec 32 := Scalar.muli c0_i32_12 c128_i32
  v22
def k0_off2 : Fin 2 → Nat :=
  let c0_i32_12 : BitVec 32 := 0#32
  let c128_i32 : BitVec 32 := 128#32
  let v22 : BitVec 32 := Scalar.muli c0_i32_12 c128_i32
  let v23 : BitVec 32 := v22
  let v24 : Index := Scalar.indexCast v23
  let c0_13 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference9Ideal.lean ====
abbrev S128x11008 : Shape := ⟨2, ![128, 11008]⟩
abbrev S1x11008x4096 : Shape := ⟨3, ![1, 11008, 4096]⟩
abbrev S128x4096 : Shape := ⟨2, ![128, 4096]⟩
abbrev S1x4096 : Shape := ⟨2, ![1, 4096]⟩
abbrev S_ : Shape := ⟨0, ![]⟩
abbrev S11008x4096 : Shape := ⟨2, ![11008, 4096]⟩
abbrev S4096 : Shape := ⟨1, ![4096]⟩
abbrev S128 : Shape := ⟨1, ![128]⟩
abbrev S128x1 : Shape := ⟨2, ![128, 1]⟩

abbrev nBuf : Space → Nat
  | .hbm => 45
  | .vmem => 0
  | .smem => 0
  | _ => 0

abbrev bufTy : (tb : Table) → Fin (tcTables nBuf tb) → BufTy
  | .hbm, ⟨0, _⟩ => ⟨S128x11008, .f32⟩
  | .hbm, ⟨1, _⟩ => ⟨S1x11008x4096, .f32⟩
  | .hbm, ⟨2, _⟩ => ⟨S128x4096, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S128x4096, .f32⟩
  | .hbm, ⟨7, _⟩ => ⟨S128x4096, .f32⟩
  | .hbm, ⟨8, _⟩ => ⟨S11008x4096, .f32⟩
  | .hbm, ⟨9, _⟩ => ⟨S128x4096, .f32⟩
  | .hbm, ⟨10, _⟩ => ⟨S_, .f32⟩
  | .hbm, ⟨11, _⟩ => ⟨S128x4096, .f32⟩
  | .hbm, ⟨12, _⟩ => ⟨S128x4096, .f32⟩
  | .hbm, ⟨13, _⟩ => ⟨S128x4096, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S128, .f32⟩
  | .hbm, ⟨18, _⟩ => ⟨S128x1, .f32⟩
  | .hbm, ⟨19, _⟩ => ⟨S_, .f32⟩
  | .hbm, ⟨20, _⟩ => ⟨S128x1, .f32⟩
  | .hbm, ⟨21, _⟩ => ⟨S128x1, .f32⟩
  | .hbm, ⟨22, _⟩ => ⟨S128x4096, .f32⟩
  | .hbm, ⟨23, _⟩ => ⟨S128x4096, .f32⟩
  | .hbm, ⟨24, _⟩ => ⟨S128x4096, .f32⟩
  | .hbm, ⟨25, _⟩ => ⟨S_, .f32⟩
  | .hbm, ⟨26, _⟩ => ⟨S128, .f32⟩
  | .hbm, ⟨27, _⟩ => ⟨S128x1, .f32⟩
  | .hbm, ⟨28, _⟩ => ⟨S_, .f32⟩
  | .hbm, ⟨29, _⟩ => ⟨S128x1, .f32⟩
  | .hbm, ⟨30, _⟩ => ⟨S128x1, .f32⟩
  | .hbm, ⟨31, _⟩ => ⟨S128x4096, .f32⟩
  | .hbm, ⟨32, _⟩ => ⟨S128x4096, .f32⟩
  | .hbm, ⟨33, _⟩ => ⟨S_, .f32⟩
  | .hbm, ⟨34, _⟩ => ⟨S128x1, .f32⟩
  | .hbm, ⟨35, _⟩ => ⟨S128x1, .f32⟩
  | .hbm, ⟨36, _⟩ => ⟨S128x1, .f32⟩
  | .hbm, ⟨37, _⟩ => ⟨S128x4096, .f32⟩
  | .hbm, ⟨38, _⟩ => ⟨S128x4096, .f32⟩
  | .hbm, ⟨39, _⟩ => ⟨S1x4096, .f32⟩
  | .hbm, ⟨40, _⟩ => ⟨S128x4096, .f32⟩
  | .hbm, ⟨41, _⟩ => ⟨S128x4096, .f32⟩
  | .hbm, ⟨42, _⟩ => ⟨S1x4096, .f32⟩
  | .hbm, ⟨43, _⟩ => ⟨S128x4096, .f32⟩
  | .hbm, ⟨44, _⟩ => ⟨S128x4096, .f32⟩
  | _, _ => ⟨S128x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Proof.RecurrenceWords.lean ====
/- The recurrence kernel's values as a few generic words: the sixty-four row blocks of one grid point differ in their
   number only, so each word below takes the block's number, and what the body stores is the list of these words. -/
module

public import proofs.«01_k».proof.Proof.Gen.KernelIdeal.Frame
public import Idealize.ShloMosaic.Lib.Pipeline.ValueKit

@[expose] public section

set_option maxRecDepth 16384

noncomputable section

namespace Cert.KernelIdeal.Recurrence

open Cert.KernelIdeal Cert.KernelIdeal.Gen Idealize.ShloMosaic Idealize.ShloMosaic.TcCoe Idealize.SL.Sem

/-! ## Extents, for any block -/

theorem headSlices (p : Fin 8) : S128x1024.Slices ![0, 128 * p.val] S128x128 := by revert p; decide +kernel
theorem rowSlices (i : Fin 64) : S1024x128.Slices ![16 * i.val, 0] S16x128 := by revert i; decide +kernel
theorem lastSlices (i : Fin 64) : S64x1x128.Slices ![i.val, 0, 0] S1x1x128 := by revert i; decide +kernel
theorem halfSlices (h : Fin 2) : S64x16x128.Slices ![0, 8 * h.val, 0] S64x8x128 := by revert h; decide +kernel
theorem timeSlices (s : Fin 16) : S64x16x128.Slices ![0, s.val, 0] S64x1x128 := by revert s; decide +kernel
theorem backSlices (p : Fin 8) : S1024x128.Slices ![128 * p.val, 0] S128x128 := by revert p; decide +kernel
theorem blockInb (i : Fin 64) :
    ∀ a, (![i.val % 8, i.val / 8, 0, 0] : Fin 4 → Nat) a + S1x1x128x128.size a ≤ S8x8x128x128.size a := by
  revert i; decide +kernel
theorem loadInb (i : Fin 64) :
    ∀ a, (![i.val / 8, i.val % 8, 0, 0] : Fin 4 → Nat) a + S1x1x128x128.size a ≤ S8x8x128x128.size a := by
  revert i; decide +kernel

/-! ## Gates, and heads stacked into rows -/

/-- Half of the hyperbolic tangent of half the forget logit. -/
def halfTanh (f : FVec Ideal S128x1024 .f32) : FVec Ideal S128x1024 .f32 :=
  mulf (broadcast S128x1024 (Scalar.ofBits .f32 0x3F000000#32))
    (tanh (mulf (broadcast S128x1024 (Scalar.ofBits .f32 0x3F000000#32)) f))

/-- One less the gates' lower bound, over all rows. -/
def coBound (lb : FVec Ideal S1x1024 .f32) : FVec Ideal S128x1024 .f32 :=
  broadcastTo S128x1024 (subf (broadcast S1x1024 (Scalar.ofBits .f32 0x3F800000#32)) (shapeCast S1x1024 lb shapeCasts_S1x1024_S1x1024))
    broadcasts_S1x1024_S128x1024

/-- The logarithm of the forget gate. -/
def logGate (lb : FVec Ideal S1x1024 .f32) (f : FVec Ideal S128x1024 .f32) : FVec Ideal S128x1024 .f32 :=
  log (addf (broadcastTo S128x1024 (shapeCast S1x1024 lb shapeCasts_S1x1024_S1x1024) broadcasts_S1x1024_S128x1024)
    (mulf (coBound lb) (addf (broadcast S128x1024 (Scalar.ofBits .f32 0x3F000000#32)) (halfTanh f))))

/-- The key: the input gate. -/
def inputGate (lb : FVec Ideal S1x1024 .f32) (f : FVec Ideal S128x1024 .f32) : FVec Ideal S128x1024 .f32 :=
  mulf (coBound lb) (subf (broadcast S128x1024 (Scalar.ofBits .f32 0x3F000000#32)) (halfTanh f))

/-- The heads of an array, stacked into rows. -/
def stack (X : FVec Ideal S128x1024 .f32) : FVec Ideal S1024x128 .f32 :=
  concatenate S1024x128 0
    (List.ofFn fun p : Fin 8 => ⟨S128x128, extractStridedSlice S128x128 ![0, 128 * p.val] X (headSlices p)⟩)
    concatenates_S128x128_S128x128_S128x128_S128x128_S128x128_S128x128_S128x128_S128x128_S1024x128_d0

/-- Its inverse: the rows of a head back in the head's columns. -/
def unstack (Y : FVec Ideal S1024x128 .f32) : FVec Ideal S128x1024 .f32 :=
  concatenate S128x1024 1
    (List.ofFn fun p : Fin 8 => ⟨S128x128, extractStridedSlice S128x128 ![128 * p.val, 0] Y (backSlices p)⟩)
    concatenates_S128x128_S128x128_S128x128_S128x128_S128x128_S128x128_S128x128_S128x128_S128x1024_d1

/-! ## The running sum of each block's rows -/

/-- One doubling step: a row gets the row `w` above it where the two are of one block. -/
def sweep (w : BitVec 32) (X : FVec Ideal S1024x128 .f32) : FVec Ideal S1024x128 .f32 :=
  addf X (select (broadcastTo S1024x128 (shapeCast S1024x1 (cmpi .sge k0_pay144 (broadcast S1024x1 w)) shapeCasts_S1024x1_S1024x1)
      broadcasts_S1024x1_S1024x128)
    (dynamicRotate 0 w none X rotates_S1024x128_d0)
    (broadcast S1024x128 (Scalar.ofBits .f32 0x00000000#32)))

/-- The running sums. -/
def running (X : FVec Ideal S1024x128 .f32) : FVec Ideal S1024x128 .f32 := sweep 8#32 (sweep 4#32 (sweep 2#32 (sweep 1#32 X)))

/-- Rows as blocks. -/
abbrev blocked (X : FVec Ideal S1024x128 .f32) : FVec Ideal S64x16x128 .f32 := shapeCast S64x16x128 X shapeCasts_S1024x128_S64x16x128

/-- The last row of each block. -/
def lastRow (L : FVec Ideal S1024x128 .f32) : FVec Ideal S64x1x128 .f32 :=
  extractStridedSlice S64x1x128 ![0, 15, 0] (blocked L) slices_S64x16x128_o0_15_0_S64x1x128

/-- The keys as the block's last row sees them. -/
def keyLate (K L : FVec Ideal S1024x128 .f32) : FVec Ideal S1024x128 .f32 :=
  shapeCast S1024x128 (mulf (blocked K) (exp (subf (broadcastTo S64x16x128 (lastRow L) broadcasts_S64x1x128_S64x16x128) (blocked L))))
    shapeCasts_S64x16x128_S1024x128

/-- The running sums in units of `log 2`. -/
def scaled (L : FVec Ideal S1024x128 .f32) : FVec Ideal S64x16x128 .f32 :=
  mulf (blocked L) (broadcast S64x16x128 (Named.named κ "log2e" 0x3FB8AA3B#32))

/-! ## Scores inside a block -/

abbrev half (X : FVec Ideal S64x16x128 .f32) (h : Fin 2) : FVec Ideal S64x8x128 .f32 :=
  extractStridedSlice S64x8x128 ![0, 8 * h.val, 0] X (halfSlices h)

abbrev time (X : FVec Ideal S64x16x128 .f32) (s : Fin 16) : FVec Ideal S64x1x128 .f32 :=
  extractStridedSlice S64x1x128 ![0, s.val, 0] X (timeSlices s)

/-- The decays of half `h` since time `s`. -/
def since (B : FVec Ideal S64x16x128 .f32) (h : Fin 2) (s : Fin 16) : FVec Ideal S64x8x128 .f32 :=
  subf (half B h) (broadcastTo S64x8x128 (time B s) broadcasts_S64x1x128_S64x8x128)

/-- The same, minus infinity before time `s`. -/
def sinceMasked (B : FVec Ideal S64x16x128 .f32) (h : Fin 2) (s : Fin 16) : FVec Ideal S64x8x128 .f32 :=
  select (broadcastTo S64x8x128 (shapeCast S1x8x1 (cmpi .sge (iota .tc S1x8x1 32 [1] iota_S1x8x1_d1_w32)
      (broadcast S1x8x1 (BitVec.ofNat 32 (s.val - 8 * h.val)))) shapeCasts_S1x8x1_S1x8x1) broadcasts_S1x8x1_S64x8x128)
    (since B h s) (broadcast S64x8x128 (Scalar.ofBits .f32 0xFF800000#32))

/-- What time `s` adds to half `h` of the output, its decays given. -/
def addend (E : FVec Ideal S64x8x128 .f32) (Q K U : FVec Ideal S64x16x128 .f32) (h : Fin 2) (s : Fin 16) : FVec Ideal S64x8x128 .f32 :=
  mulf (broadcastTo S64x8x128 (shapeCast S64x8x1 (multiReduction .add [2] S64x8
      (mulf (mulf (exp2 E) (half Q h)) (broadcastTo S64x8x128 (time K s) broadcasts_S64x1x128_S64x8x128))
      0x00000000#32 reduces_S64x8x128_S64x8 (.inl rfl) rfl) shapeCasts_S64x8_S64x8x1) broadcasts_S64x8x1_S64x8x128)
    (broadcastTo S64x8x128 (time U s) broadcasts_S64x1x128_S64x8x128)

/-- The times a half sees in part. -/
def partly (B Q K U : FVec Ideal S64x16x128 .f32) (h : Fin 2) (l : List (Fin 16)) (a : FVec Ideal S64x8x128 .f32) : FVec Ideal S64x8x128 .f32 :=
  l.foldl (fun a s => addf a (addend (sinceMasked B h s) Q K U h s)) a

/-- The times a half sees whole. -/
def fully (B Q K U : FVec Ideal S64x16x128 .f32) (h : Fin 2) (l : List (Fin 16)) (a : FVec Ideal S64x8x128 .f32) : FVec Ideal S64x8x128 .f32 :=
  l.foldl (fun a s => addf a (addend (since B h s) Q K U h s)) a

/-- The first half of each block's output from its own times. -/
def low (B Q K U : FVec Ideal S64x16x128 .f32) : FVec Ideal S64x8x128 .f32 :=
  partly B Q K U 0 [1, 2, 3, 4, 5, 6, 7] (fully B Q K U 0 [0] k0_pay161)

/-- The second half. -/
def high (B Q K U : FVec Ideal S64x16x128 .f32) : FVec Ideal S64x8x128 .f32 :=
  partly B Q K U 1 [9, 10, 11, 12, 13, 14, 15] (fully B Q K U 1 [0, 1, 2, 3, 4, 5, 6, 7, 8] k0_pay161)

/-- Both, as rows. -/
def inner (B Q K U : FVec Ideal S64x16x128 .f32) : FVec Ideal S1024x128 .f32 :=
  shapeCast S1024x128 (concatenate S64x16x128 1 [⟨S64x8x128, low B Q K U⟩, ⟨S64x8x128, high B Q K U⟩]
    concatenates_S64x8x128_S64x8x128_S64x16x128_d1) shapeCasts_S64x16x128_S1024x128

/-! ## The state -/

/-- The state a block starts from, transposed. -/
def start (arg12 : Memref sig .tc .vmem S8x8x128x128 .f32) (L : List (View.Piece (Elt Ideal) S8x8x128x128 .f32)) (i : Fin 64) :
    FVec Ideal S128x128 .f32 :=
  shapeCast S128x128 (arg12.view.readCov L
    (Rect.unit (s := S8x8x128x128) ![i.val % 8, i.val / 8, 0, 0] S1x1x128x128.size (blockInb i)).toLoadRect) shapeCasts_S1x1x128x128_S128x128

/-- The state a block leaves, transposed. -/
def finish (L K U : FVec Ideal S1024x128 .f32) (S : FVec Ideal S128x128 .f32) (i : Fin 64) : FVec Ideal S128x128 .f32 :=
  addf (mulf S (broadcastTo S128x128 (shapeCast S1x128 (extractStridedSlice S1x1x128 ![i.val, 0, 0] (exp (lastRow L)) (lastSlices i))
      shapeCasts_S1x1x128_S1x128) broadcasts_S1x128_S128x128))
    (matmul dot_S16x128_S16x128_S128x128_0_0_1_1_n_n none
      (truncf .bf16 (extractStridedSlice S16x128 ![16 * i.val, 0] U (rowSlices i)) bitsLt_bf16_f32)
      (truncf .bf16 (extractStridedSlice S16x128 ![16 * i.val, 0] (keyLate K L) (rowSlices i)) bitsLt_bf16_f32)
      (constant S128x128 .f32 0#32))

/-- What a block's output gets of the state it starts from. -/
def carried (Q L : FVec Ideal S1024x128 .f32) (S : FVec Ideal S128x128 .f32) (i : Fin 64) : FVec Ideal S16x128 .f32 :=
  matmul dot_S16x128_S128x128_S16x128_1_1_0_0_n_n none
    (truncf .bf16 (extractStridedSlice S16x128 ![16 * i.val, 0] (mulf Q (exp L)) (rowSlices i)) bitsLt_bf16_f32)
    (truncf .bf16 S bitsLt_bf16_f32) (constant S16x128 .f32 0#32)

/-- The same for all blocks, as rows. -/
def allCarried (Q L : FVec Ideal S1024x128 .f32) (S : Fin 64 → FVec Ideal S128x128 .f32) : FVec Ideal S1024x128 .f32 :=
  concatenate S1024x128 0 (List.ofFn fun i : Fin 64 => ⟨S16x128, carried Q L (S i) i⟩)
    concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S1024x128_d0

/-- The output before its norm: what the block's own times make and what the state gives. -/
def output (Q K U L : FVec Ideal S1024x128 .f32) (S : Fin 64 → FVec Ideal S128x128 .f32) : FVec Ideal S1024x128 .f32 :=
  addf (inner (scaled L) (blocked Q) (blocked K) (blocked U)) (allCarried Q L S)

/-- Each row over its root mean square. -/
def normed (Y : FVec Ideal S1024x128 .f32) : FVec Ideal S1024x128 .f32 :=
  mulf Y (broadcastTo S1024x128 (rsqrt (addf
    (divf (shapeCast S1024x1 (multiReduction .add [1] S1024 (mulf Y Y) 0x00000000#32 reduces_S1024x128_S1024 (.inl rfl) rfl) shapeCasts_S1024_S1024x1)
      (broadcast S1024x1 (Scalar.ofBits .f32 0x43000000#32)))
    (broadcast S1024x1 (Scalar.ofBits .f32 0x358637BD#32)))) broadcasts_S1024x1_S1024x128)

/-! ## The body's stores are these words -/

section

variable (c : Dev nD) (i : grid0.Coords) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S128x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S8x8x128x128 .f32) (harg9 : arg9.IsWhole) (arg10 : Memref sig .tc .vmem S128x1024 .bf16) (harg10 : arg10.IsWhole) (arg11 : Memref sig .tc .vmem S8x8x128x128 .f32) (harg11 : arg11.IsWhole) (arg12 : Memref sig .tc .vmem S8x8x128x128 .f32) (harg12 : arg12.IsWhole) (hc0 : cond0_0 i) (hc1 : cond0_1 i)
    (x0 : Vec Ideal S128x1024 .f32) (x1 : Vec Ideal S128x1024 .f32) (x2 : Vec Ideal S128x1024 .f32) (x3 : Vec Ideal S128x1024 .f32) (x4 : Vec Ideal S1x1024 .f32) (x5 : Vec Ideal S1x1024 .f32) (x6 : Vec Ideal S8x8x128x128 .f32)

/-- A whole buffer's contents, read by one load. -/
theorem rows_read {a : Memref sig .tc .vmem S128x1024 .f32} (h : a.IsWhole) (x : Vec Ideal S128x1024 .f32) :
    View.readAt (Elt Ideal) a.view (Rect.unit (s := S128x1024) ![0, 0] S128x1024.size inb_S128x1024_S128x1024_0_0).toLoadRect (h.unread x) = x :=
  (funext fun y => congrFun (h.read_unread x) _).trans (View.ld_unit_lit inb_S128x1024_S128x1024_0_0 x (by decide))

theorem row_read {a : Memref sig .tc .vmem S1x1024 .f32} (h : a.IsWhole) (x : Vec Ideal S1x1024 .f32) :
    View.readAt (Elt Ideal) a.view (Rect.unit (s := S1x1024) ![0, 0] S1x1024.size inb_S1x1024_S1x1024_0_0).toLoadRect (h.unread x) = x :=
  (funext fun y => congrFun (h.read_unread x) _).trans (View.ld_unit_lit inb_S1x1024_S1x1024_0_0 x (by decide))

theorem stacked_q : kernelRun0_A.sl.v14 c arg3 harg3 x0 = stack x0 :=
  Eq.trans (b := stack (View.readAt (Elt Ideal) arg3.view (Rect.unit (s := S128x1024) ![0, 0] S128x1024.size inb_S128x1024_S128x1024_0_0).toLoadRect (harg3.unread x0)))
    (by exact rfl) (by rw [rows_read])

theorem stacked_v : kernelRun0_A.sl.v25 c arg5 harg5 x2 = stack x2 :=
  Eq.trans (b := stack (View.readAt (Elt Ideal) arg5.view (Rect.unit (s := S128x1024) ![0, 0] S128x1024.size inb_S128x1024_S128x1024_0_0).toLoadRect (harg5.unread x2)))
    (by exact rfl) (by rw [rows_read])

theorem stacked_k : kernelRun0_A.sl.v63 c arg4 harg4 arg7 harg7 x1 x4 = stack (inputGate x4 x1) :=
  Eq.trans (b := stack (inputGate (View.readAt (Elt Ideal) arg7.view (Rect.unit (s := S1x1024) ![0, 0] S1x1024.size inb_S1x1024_S1x1024_0_0).toLoadRect (harg7.unread x4))
      (View.readAt (Elt Ideal) arg4.view (Rect.unit (s := S128x1024) ![0, 0] S128x1024.size inb_S128x1024_S128x1024_0_0).toLoadRect (harg4.unread x1))))
    (by exact rfl) (by rw [rows_read, row_read])

theorem summed_once : kernelRun0_A.sl.v88 c arg4 harg4 arg7 harg7 x1 x4 = sweep 1#32 (stack (logGate x4 x1)) :=
  Eq.trans (b := sweep 1#32 (stack (logGate (View.readAt (Elt Ideal) arg7.view (Rect.unit (s := S1x1024) ![0, 0] S1x1024.size inb_S1x1024_S1x1024_0_0).toLoadRect (harg7.unread x4))
      (View.readAt (Elt Ideal) arg4.view (Rect.unit (s := S128x1024) ![0, 0] S128x1024.size inb_S128x1024_S128x1024_0_0).toLoadRect (harg4.unread x1)))))
    (by exact rfl) (by rw [rows_read, row_read])

/-- The scratch buffer after the load: every state, transposed. -/
theorem scratch_pieces : kernelRun0_A.sl.HS0_64 c arg9 harg9 x6 =
    List.ofFn fun n : Fin 64 => (⟨Rect.unit (s := S8x8x128x128) ![n.rev.val / 8, n.rev.val % 8, 0, 0] S1x1x128x128.size (loadInb n.rev),
      shapeCast S1x1x128x128 (transpose S128x128 [1, 0] (shapeCast S128x128 (View.readAt (Elt Ideal) arg9.view
        (Rect.unit (s := S8x8x128x128) ![n.rev.val / 8, n.rev.val % 8, 0, 0] S1x1x128x128.size (loadInb n.rev)).toLoadRect (harg9.unread x6))
        shapeCasts_S1x1x128x128_S128x128) transposes_S128x128_p1_0_S128x128) shapeCasts_S128x128_S1x1x128x128⟩ :
        View.Piece (Elt Ideal) S8x8x128x128 .f32) := by exact rfl

/-- The states the body stores. -/
theorem state_pieces : (kernelRun0_A c i arg3 harg3 arg4 harg4 arg5 harg5 arg6 harg6 arg7 harg7 arg8 harg8 arg9 harg9 arg10 harg10 arg11 harg11 arg12 harg12 hc0 hc1 x0 x1 x2 x3 x4 x5 x6).2.1 =
    List.ofFn fun n : Fin 64 => (⟨Rect.unit (s := S8x8x128x128) ![n.rev.val % 8, n.rev.val / 8, 0, 0] S1x1x128x128.size (blockInb n.rev),
      shapeCast S1x1x128x128 (transpose S128x128 [1, 0]
        (finish (running (stack (logGate x4 x1))) (stack (inputGate x4 x1)) (stack x2) (start arg12 (kernelRun0_A.sl.HS0_64 c arg9 harg9 x6) n.rev) n.rev)
        transposes_S128x128_p1_0_S128x128) shapeCasts_S128x128_S1x1x128x128⟩ : View.Piece (Elt Ideal) S8x8x128x128 .f32) := by
  unfold running
  rw [← summed_once c arg4 harg4 arg7 harg7, ← stacked_k c arg4 harg4 arg7 harg7, ← stacked_v c arg5 harg5 x2]
  exact rfl

/-- The first half of each block's own times. -/
theorem low_word : kernelRun0_A.sl.v380 c arg3 harg3 arg4 harg4 arg5 harg5 arg7 harg7 x0 x1 x2 x4 =
    low (scaled (sweep 8#32 (sweep 4#32 (sweep 2#32 (kernelRun0_A.sl.v88 c arg4 harg4 arg7 harg7 x1 x4))))) (blocked (kernelRun0_A.sl.v14 c arg3 harg3 x0)) (blocked (kernelRun0_A.sl.v63 c arg4 harg4 arg7 harg7 x1 x4)) (blocked (kernelRun0_A.sl.v25 c arg5 harg5 x2)) := by exact rfl

/-- The second half. -/
theorem high_word : kernelRun0_A.sl.v554 c arg3 harg3 arg4 harg4 arg5 harg5 arg7 harg7 x0 x1 x2 x4 =
    high (scaled (sweep 8#32 (sweep 4#32 (sweep 2#32 (kernelRun0_A.sl.v88 c arg4 harg4 arg7 harg7 x1 x4))))) (blocked (kernelRun0_A.sl.v14 c arg3 harg3 x0)) (blocked (kernelRun0_A.sl.v63 c arg4 harg4 arg7 harg7 x1 x4)) (blocked (kernelRun0_A.sl.v25 c arg5 harg5 x2)) := by exact rfl

/-- What the states give to all rows. -/
theorem carried_word : kernelRun0_A.sl.v1773 c arg3 harg3 arg4 harg4 arg7 harg7 arg9 harg9 arg12 x0 x1 x4 x6 =
    allCarried (kernelRun0_A.sl.v14 c arg3 harg3 x0) (sweep 8#32 (sweep 4#32 (sweep 2#32 (kernelRun0_A.sl.v88 c arg4 harg4 arg7 harg7 x1 x4)))) (start arg12 (kernelRun0_A.sl.HS0_64 c arg9 harg9 x6)) := by exact rfl

/-- The output before its norm. -/
theorem output_word : kernelRun0_A.sl.v1774 c arg3 harg3 arg4 harg4 arg5 harg5 arg7 harg7 arg9 harg9 arg12 x0 x1 x2 x4 x6 =
    output (stack x0) (stack (inputGate x4 x1)) (stack x2) (running (stack (logGate x4 x1)))
      (start arg12 (kernelRun0_A.sl.HS0_64 c arg9 harg9 x6)) := by
  unfold running output inner
  rw [← summed_once c arg4 harg4 arg7 harg7, ← stacked_k c arg4 harg4 arg7 harg7, ← stacked_v c arg5 harg5 x2, ← stacked_q c arg3 harg3 x0,
    ← low_word, ← high_word, ← carried_word]
  exact rfl

/-- The output the body stores. -/
theorem output_pieces : (kernelRun0_A c i arg3 harg3 arg4 harg4 arg5 harg5 arg6 harg6 arg7 harg7 arg8 harg8 arg9 harg9 arg10 harg10 arg11 harg11 arg12 harg12 hc0 hc1 x0 x1 x2 x3 x4 x5 x6).1 =
    [(⟨Rect.unit (s := S128x1024) ![0, 0] S128x1024.size inb_S128x1024_S128x1024_0_0,
      k0_pay1 (unstack (normed (output (stack x0) (stack (inputGate x4 x1)) (stack x2) (running (stack (logGate x4 x1)))
        (start arg12 (kernelRun0_A.sl.HS0_64 c arg9 harg9 x6))))) x3 x5⟩ : View.Piece (Elt Ideal) S128x1024 .bf16)] := by
  refine Eq.trans (b := [(⟨Rect.unit (s := S128x1024) ![0, 0] S128x1024.size inb_S128x1024_S128x1024_0_0,
      k0_pay1 (unstack (normed (kernelRun0_A.sl.v1774 c arg3 harg3 arg4 harg4 arg5 harg5 arg7 harg7 arg9 harg9 arg12 x0 x1 x2 x4 x6)))
        (View.readAt (Elt Ideal) arg6.view (Rect.unit (s := S128x1024) ![0, 0] S128x1024.size inb_S128x1024_S128x1024_0_0).toLoadRect (harg6.unread x3))
        (View.readAt (Elt Ideal) arg8.view (Rect.unit (s := S1x1024) ![0, 0] S1x1024.size inb_S1x1024_S1x1024_0_0).toLoadRect (harg8.unread x5))⟩ : View.Piece (Elt Ideal) S128x1024 .bf16)]) (by exact rfl) ?_
  rw [rows_read, row_read, output_word]

end

end Cert.KernelIdeal.Recurrence
-- ==== Proof.Scalar.lean ====
/- Facts about single extended reals that the kernels' pieces share: the sigmoid written with a hyperbolic tangent is
   the logistic function, and a power of two whose exponent carries the factor 1 / ln 2 is the exponential. -/
module

public import Idealize.ShloMosaic.Lib.Pointwise

@[expose] public section

noncomputable section

namespace Cert.Scalar

open Idealize.ShloMosaic

/-- The pattern of `0.5` denotes one half. -/
theorem ofBits_half : Ideal.ofBits .f32 0x3F000000#32 = ((1 / 2 : ℝ) : EReal) := by
  simp [Ideal.ofBits, Ideal.ieee, -EReal.coe_mul]; norm_num

/-- The logistic function of a real number, through the exact quotient. -/
theorem div_one_add_exp (r : ℝ) :
    Ideal.div 1 (1 + Ideal.exp (r : EReal)) = ((1 / (1 + Real.exp r) : ℝ) : EReal) := by
  have h : (1 : EReal) + ((Real.exp r : ℝ) : EReal) = ((1 + Real.exp r : ℝ) : EReal) := by norm_cast
  have hpos : (1 + Real.exp r : ℝ) ≠ 0 := by positivity
  rw [Ideal.exp_coe, h, Ideal.div, if_neg (by exact_mod_cast hpos), one_mul, ← EReal.coe_inv, one_div]

/-- `1/2 + 1/2 · tanh (x/2) = 1 / (1 + e⁻ˣ)` on the reals. -/
theorem real_half_add_tanh (r : ℝ) : 1 / 2 + 1 / 2 * Real.tanh (1 / 2 * r) = 1 / (1 + Real.exp (-r)) := by
  have h1 : Real.exp (-r) = Real.exp (-(1 / 2 * r)) * Real.exp (-(1 / 2 * r)) := by
    rw [← Real.exp_add]; congr 1; ring
  have hp := Real.exp_pos (1 / 2 * r)
  have hq := Real.exp_pos (-(1 / 2 * r))
  have hpq : Real.exp (1 / 2 * r) * Real.exp (-(1 / 2 * r)) = 1 := by rw [← Real.exp_add]; simp
  rw [h1, Real.tanh_eq_sinh_div_cosh, Real.sinh_eq, Real.cosh_eq]
  set a := Real.exp (1 / 2 * r)
  set b := Real.exp (-(1 / 2 * r))
  have hab : a + b ≠ 0 := by positivity
  have hb : 1 + b * b ≠ 0 := by positivity
  field_simp
  nlinarith [hpq]

/-- `1/2 + 1/2 · tanh (x/2) = 1 / (1 + e⁻ˣ)`, at every extended real. -/
theorem half_add_tanh (x : EReal) :
    ((1 / 2 : ℝ) : EReal) + ((1 / 2 : ℝ) : EReal) * Ideal.tanh (((1 / 2 : ℝ) : EReal) * x)
      = Ideal.div 1 (1 + Ideal.exp (-x)) := by
  induction x using EReal.rec with
  | bot =>
    rw [EReal.coe_mul_bot_of_pos (by norm_num), Ideal.tanh_bot, EReal.neg_bot, Ideal.exp_top,
      EReal.add_top_of_ne_bot (by decide), Ideal.div, if_neg (by decide), EReal.inv_top, mul_zero]
    rw [show (-1 : EReal) = ((-1 : ℝ) : EReal) by norm_num, ← EReal.coe_mul, ← EReal.coe_add,
      ← EReal.coe_zero]
    congr 1; norm_num
  | top =>
    rw [EReal.coe_mul_top_of_pos (by norm_num), Ideal.tanh_top, EReal.neg_top, Ideal.exp_bot, add_zero,
      Ideal.div, if_neg one_ne_zero, mul_one, one_mul, ← EReal.coe_one, ← EReal.coe_inv, ← EReal.coe_add]
    congr 1; norm_num
  | coe r =>
    rw [← EReal.coe_mul, Ideal.tanh_coe, ← EReal.coe_mul, ← EReal.coe_add, ← EReal.coe_neg, div_one_add_exp,
      real_half_add_tanh]

/-- `1/2 - 1/2 · tanh (x/2) = 1 / (1 + eˣ)`, at every extended real. -/
theorem half_sub_tanh (x : EReal) :
    ((1 / 2 : ℝ) : EReal) - ((1 / 2 : ℝ) : EReal) * Ideal.tanh (((1 / 2 : ℝ) : EReal) * x)
      = Ideal.div 1 (1 + Ideal.exp (- -x)) := by
  rw [← half_add_tanh (-x), mul_neg, sub_eq_add_neg, ← mul_neg]
  congr 2
  induction x using EReal.rec with
  | bot =>
    rw [EReal.coe_mul_bot_of_pos (by norm_num), Ideal.tanh_bot, EReal.neg_bot, Ideal.tanh_top, neg_neg]
  | top =>
    rw [EReal.coe_mul_top_of_pos (by norm_num), Ideal.tanh_top, EReal.neg_top, Ideal.tanh_bot]
  | coe r =>
    rw [← EReal.coe_mul, ← EReal.coe_neg, Ideal.tanh_coe, Ideal.tanh_coe, Real.tanh_neg, EReal.coe_neg]

/-- `2 ^ (a / ln 2 - b / ln 2) = e ^ (a - b)`, at every two extended reals. -/
theorem exp2_sub (a b : EReal) :
    Ideal.exp2 (a * (((Real.log 2)⁻¹ : ℝ) : EReal) - b * (((Real.log 2)⁻¹ : ℝ) : EReal)) = Ideal.exp (a - b) := by
  have hl : 0 < Real.log 2 := Real.log_pos (by norm_num)
  have hc : 0 < (Real.log 2)⁻¹ := inv_pos.mpr hl
  have key : ∀ x : EReal, Ideal.exp2 (x * (((Real.log 2)⁻¹ : ℝ) : EReal)) = Ideal.exp x := by
    intro x
    induction x using EReal.rec with
    | bot => rw [EReal.bot_mul_coe_of_pos hc]; rfl
    | top => rw [EReal.top_mul_coe_of_pos hc]; rfl
    | coe r =>
      rw [← EReal.coe_mul, Ideal.exp2_coe, Ideal.exp_coe]
      congr 1
      show (2 : ℝ) ^ (r * (Real.log 2)⁻¹) = Real.exp r
      rw [Real.rpow_def_of_pos (by norm_num)]
      congr 1
      field_simp
  rw [← key, sub_eq_add_neg, sub_eq_add_neg, ← EReal.neg_mul, mul_comm a, mul_comm (-b), mul_comm (a + -b),
    EReal.left_distrib_of_nonneg_of_ne_top (by exact_mod_cast hc.le) (EReal.coe_ne_top _)]

end Cert.Scalar

end
-- ==== Proof.RecurrenceRows.lean ====
/- The recurrence kernel's words read at an index: block `i`, time `t` within it, lane `d`. -/
module

public import proofs.«01_k».proof.Proof.RecurrenceWords
public import proofs.«01_k».proof.Proof.Scalar

@[expose] public section

set_option maxRecDepth 16384

noncomputable section

namespace Cert.Recurrence

open Idealize.ShloMosaic

/-- How much time `s` counts at time `t`: the decays since `s`, weighed by query and key; nothing before `s`. -/
def score (q k l : Fin 16 → Fin 128 → EReal) (t s : Fin 16) : EReal :=
  ∑ a, q t a * k s a * if s ≤ t then Ideal.exp (l t a - l s a) else 0

/-- The recurrence's output at time `t`, from the block's own times and from the state `S` it starts from. -/
def spread (q k v l : Fin 16 → Fin 128 → EReal) (S : Fin 128 → Fin 128 → EReal) (t : Fin 16) (b : Fin 128) : EReal :=
  (∑ s, score q k l t s * v s b) + ∑ a, q t a * Ideal.exp (l t a) * S a b

/-- The state after the last time. -/
def leave (k v l : Fin 16 → Fin 128 → EReal) (S : Fin 128 → Fin 128 → EReal) (a b : Fin 128) : EReal :=
  Ideal.exp (l 15 a) * S a b + ∑ t, k t a * Ideal.exp (l 15 a - l t a) * v t b

/-- A row over its root mean square. -/
def unit (y : Fin 128 → EReal) (b : Fin 128) : EReal :=
  y b * Ideal.rsqrt (Ideal.div (∑ e, y e * y e) (Ideal.ofBits .f32 0x43000000#32) + Ideal.ofBits .f32 0x358637BD#32)

/-- The running sum of a block's rows. -/
def cum (l : Fin 16 → EReal) (t : Fin 16) : EReal := ∑ u : Fin 16, if u ≤ t then l u else 0

/-- One doubling step of a running sum. -/
def step (w : ℕ) (x : ℕ → EReal) (t : ℕ) : EReal := x t + if w ≤ t then x (t - w) else 0

/-- Four doubling steps make the running sums of sixteen entries. -/
theorem steps_eq (x : ℕ → EReal) (t : Fin 16) :
    step 8 (step 4 (step 2 (step 1 x))) t = cum (fun u => x u) t := by
  fin_cases t <;> simp [step, cum, Fin.sum_univ_succ, Fin.le_def] <;> abel

end Cert.Recurrence

namespace Cert.KernelIdeal.Recurrence

open Cert.KernelIdeal Cert.KernelIdeal.Gen Cert.Recurrence Idealize.ShloMosaic Idealize.ShloMosaic.TcCoe Idealize.SL.Sem

/-- The row of block `i` at time `t`. -/
def row (i : Fin 64) (t : Fin 16) : Fin 1024 := ⟨16 * i.val + t.val, by omega⟩

theorem late (r : Fin 1024) (k : Fin 4) :
    IntOp.cmpi .sge (k0_pay144 (ix2 r 0)) (BitVec.ofNat 32 (2 ^ k.val)) = if 2 ^ k.val ≤ r.val % 16 then 1#1 else 0#1 := by
  revert r k; decide +kernel

theorem above (r : Fin 1024) (k : Fin 4) (h : 2 ^ k.val ≤ r.val % 16) :
    (r.val + 1024 - (BitVec.ofNat 32 (2 ^ k.val)).toNat % 1024) % 1024 = r.val - 2 ^ k.val := by
  revert r k; decide +kernel

theorem sweep_apply (X : FVec Ideal S1024x128 .f32) (k : Fin 4) (r : Fin 1024) (d : Fin 128) :
    sweep (BitVec.ofNat 32 (2 ^ k.val)) X (ix2 r d) =
      X (ix2 r d) + if 2 ^ k.val ≤ r.val % 16 then X (ix2 ⟨r.val - 2 ^ k.val, lt_of_le_of_lt (Nat.sub_le _ _) r.2⟩ d) else 0 := by
  unfold sweep
  pointwise
  rw [late r k]
  by_cases h : 2 ^ k.val ≤ r.val % 16
  · simp only [if_pos h, above r k h]
    rfl
  · simp only [if_neg h]
    rfl

/-- A block's column as a function of the time, nothing after the block. -/
def column (X : FVec Ideal S1024x128 .f32) (i : Fin 64) (d : Fin 128) (t : ℕ) : EReal :=
  if h : t < 16 then X (ix2 (row i ⟨t, h⟩) d) else 0

theorem column_sweep (X : FVec Ideal S1024x128 .f32) (k : Fin 4) (i : Fin 64) (d : Fin 128) (t : ℕ) (ht : t < 16) :
    column (sweep (BitVec.ofNat 32 (2 ^ k.val)) X) i d t = step (2 ^ k.val) (column X i d) t := by
  have hm : (row i ⟨t, ht⟩).val % 16 = t := by simp only [row]; omega
  unfold step column
  rw [dif_pos ht, dif_pos ht, sweep_apply, hm]
  by_cases h : 2 ^ k.val ≤ t
  · have h' : t - 2 ^ k.val < 16 := lt_of_le_of_lt (Nat.sub_le _ _) ht
    rw [if_pos h, if_pos h, dif_pos h']
    congr 3
    apply Fin.ext
    exact Nat.add_sub_assoc h _
  · rw [if_neg h, if_neg h]

theorem step_congr {w : ℕ} {x y : ℕ → EReal} (h : ∀ t, t < 16 → x t = y t) (t : ℕ) (ht : t < 16) : step w x t = step w y t := by
  unfold step
  rw [h t ht]
  by_cases hw : w ≤ t
  · rw [if_pos hw, if_pos hw, h _ (by omega)]
  · rw [if_neg hw, if_neg hw]

/-- The running sums, read. -/
theorem running_apply (X : FVec Ideal S1024x128 .f32) (i : Fin 64) (t : Fin 16) (d : Fin 128) :
    running X (ix2 (row i t) d) = cum (fun u => X (ix2 (row i u) d)) t := by
  have h1 := fun t ht => column_sweep X 0 i d t ht
  have h2 := fun t ht => (column_sweep (sweep 1#32 X) 1 i d t ht).trans (step_congr h1 t ht)
  have h3 := fun t ht => (column_sweep (sweep 2#32 (sweep 1#32 X)) 2 i d t ht).trans (step_congr h2 t ht)
  have h4 := (column_sweep (sweep 4#32 (sweep 2#32 (sweep 1#32 X))) 3 i d t t.2).trans (step_congr h3 t t.2)
  have h5 := h4.trans (steps_eq _ t)
  have e : ∀ (Y : FVec Ideal S1024x128 .f32) (u : Fin 16), column Y i d u = Y (ix2 (row i u) d) := fun Y u => dif_pos u.2
  simp only [e] at h5
  exact h5

/-! ## Stacks -/

theorem stack_apply (X : FVec Ideal S128x1024 .f32) (r : Fin 1024) (d : Fin 128) :
    stack X (ix2 r d) = X (ix2 ⟨r.val % 128, by omega⟩ ⟨128 * (r.val / 128) + d.val, by omega⟩) := by
  unfold stack
  refine (concatenate_ofFn_apply (s₁ := S128x128) (t := S1024x128) 0
    (fun p : Fin 8 => extractStridedSlice S128x128 ![0, 128 * p.val] X (headSlices p)) _ rfl 128 rfl (ix2 r d) ⟨r.val / 128, by omega⟩ rfl
    (ix2 ⟨r.val % 128, by omega⟩ d) rfl (by intro b hb; fin_cases b; · exact absurd rfl hb
                                            · rfl)).trans ?_
  pointwise

theorem unstack_apply (Y : FVec Ideal S1024x128 .f32) (r : Fin 128) (l : Fin 1024) :
    unstack Y (ix2 r l) = Y (ix2 ⟨128 * (l.val / 128) + r.val, by omega⟩ ⟨l.val % 128, by omega⟩) := by
  unfold unstack
  refine (concatenate_ofFn_apply (s₁ := S128x128) (t := S128x1024) 1
    (fun p : Fin 8 => extractStridedSlice S128x128 ![128 * p.val, 0] Y (backSlices p)) _ rfl 128 rfl (ix2 r l) ⟨l.val / 128, by omega⟩ rfl
    (ix2 r ⟨l.val % 128, by omega⟩) rfl (by intro b hb; fin_cases b; · rfl
                                            · exact absurd rfl hb)).trans ?_
  pointwise

theorem allCarried_apply (Q L : FVec Ideal S1024x128 .f32) (S : Fin 64 → FVec Ideal S128x128 .f32) (i : Fin 64) (t : Fin 16) (d : Fin 128) :
    allCarried Q L S (ix2 (row i t) d) = carried Q L (S i) i (ix2 t d) := by
  have hd : (row i t).val / 16 = i.val := by simp only [row]; omega
  have hm : (row i t).val % 16 = t.val := by simp only [row]; omega
  unfold allCarried
  refine (concatenate_ofFn_apply (s₁ := S16x128) (t := S1024x128) 0
    (fun i : Fin 64 => carried Q L (S i) i) _ rfl 16 rfl (ix2 (row i t) d) i hd
    (ix2 t d) hm.symm (by intro b hb; fin_cases b; · exact absurd rfl hb
                          · rfl)).trans rfl

end Cert.KernelIdeal.Recurrence
-- ==== Proof.RecurrenceBlock.lean ====
/- What the recurrence's words hold at a row: the scores and the state of one block. -/
module

public import proofs.«01_k».proof.Proof.RecurrenceRows

@[expose] public section

set_option maxRecDepth 16384

noncomputable section

namespace Cert.KernelIdeal.Recurrence

open Cert.KernelIdeal Cert.KernelIdeal.Gen Idealize.ShloMosaic Idealize.ShloMosaic.TcCoe Idealize.SL.Sem Cert.Recurrence

theorem row_left (i : Fin 64) (t : Fin 16) (h : 16 * i.val + t.val < 1024) : (⟨16 * i.val + t.val, h⟩ : Fin 1024) = row i t := rfl

theorem row_right (i : Fin 64) (t : Fin 16) (h : i.val * 16 + t.val < 1024) : (⟨i.val * 16 + t.val, h⟩ : Fin 1024) = row i t :=
  Fin.ext (by simp only [row]; omega)

theorem row_last (i : Fin 64) (h : i.val * 16 + 15 < 1024) : (⟨i.val * 16 + 15, h⟩ : Fin 1024) = row i 15 :=
  Fin.ext (by simp only [row]; show _ = _ + 15; omega)

theorem row_div (i : Fin 64) (t : Fin 16) : (row i t).val / 16 = i.val := by simp only [row]; omega

theorem row_mod (i : Fin 64) (t : Fin 16) : (row i t).val % 16 = t.val := by simp only [row]; omega

theorem blocked_apply (X : FVec Ideal S1024x128 .f32) (i : Fin 64) (t : Fin 16) (d : Fin 128) :
    blocked X (ix3 i t d) = X (ix2 (row i t) d) := by
  pointwise
  rw [row_right]

theorem scaled_apply (L : FVec Ideal S1024x128 .f32) (i : Fin 64) (t : Fin 16) (d : Fin 128) :
    scaled L (ix3 i t d) = L (ix2 (row i t) d) * Named.named (F := Ideal) κ "log2e" 0x3FB8AA3B#32 := by
  unfold scaled
  pointwise
  rw [row_right]

theorem keyLate_apply (K L : FVec Ideal S1024x128 .f32) (i : Fin 64) (t : Fin 16) (d : Fin 128) :
    keyLate K L (ix2 (row i t) d) =
      K (ix2 (row i t) d) * Ideal.exp (L (ix2 (row i 15) d) - L (ix2 (row i t) d)) := by
  unfold keyLate lastRow
  pointwise
  simp only [row_div, row_last]

theorem finish_apply (L K U : FVec Ideal S1024x128 .f32) (S : FVec Ideal S128x128 .f32) (i : Fin 64) (b a : Fin 128) :
    finish L K U S i (ix2 b a) = S (ix2 b a) * Ideal.exp (L (ix2 (row i 15) a))
      + ∑ t : Fin 16, U (ix2 (row i t) b) * (K (ix2 (row i t) a) * Ideal.exp (L (ix2 (row i 15) a) - L (ix2 (row i t) a))) := by
  unfold finish lastRow
  pointwise
  simp only [row_left, row_last, keyLate_apply]

theorem carried_apply (Q L : FVec Ideal S1024x128 .f32) (S : FVec Ideal S128x128 .f32) (i : Fin 64) (t : Fin 16) (b : Fin 128) :
    carried Q L S i (ix2 t b) = ∑ a : Fin 128, Q (ix2 (row i t) a) * Ideal.exp (L (ix2 (row i t) a)) * S (ix2 b a) := by
  unfold carried
  pointwise
  simp only [row_left]

theorem addend_apply (E : FVec Ideal S64x8x128 .f32) (Q K U : FVec Ideal S64x16x128 .f32) (h : Fin 2) (s : Fin 16) (i : Fin 64) (t : Fin 8) (d : Fin 128) :
    addend E Q K U h s (ix3 i t d) =
      (∑ a : Fin 128, Ideal.exp2 (E (ix3 i t a)) * Q (ix3 i ⟨8 * h.val + t.val, by omega⟩ a) * K (ix3 i s a)) * U (ix3 i s d) := by
  unfold addend half time
  pointwise
  rfl

theorem since_apply (B : FVec Ideal S64x16x128 .f32) (h : Fin 2) (s : Fin 16) (i : Fin 64) (t : Fin 8) (d : Fin 128) :
    since B h s (ix3 i t d) = B (ix3 i ⟨8 * h.val + t.val, by omega⟩ d) - B (ix3 i s d) := by
  unfold since half time
  pointwise

theorem reached (h : Fin 2) (s : Fin 16) (t : Fin 8) :
    IntOp.cmpi .sge (BitVec.ofNat 32 t.val) (BitVec.ofNat 32 (s.val - 8 * h.val)) = if s.val ≤ 8 * h.val + t.val then 1#1 else 0#1 := by
  revert h s t; decide +kernel

theorem ofBits_bot : Ideal.ofBits .f32 0xFF800000#32 = ⊥ := by
  exact EReal.neg_eq_top_iff.mp rfl

theorem sinceMasked_apply (B : FVec Ideal S64x16x128 .f32) (h : Fin 2) (s : Fin 16) (i : Fin 64) (t : Fin 8) (d : Fin 128) :
    sinceMasked B h s (ix3 i t d) = if s.val ≤ 8 * h.val + t.val then since B h s (ix3 i t d) else ⊥ := by
  unfold sinceMasked
  pointwise
  rw [reached, ofBits_bot]
  by_cases hs : s.val ≤ 8 * h.val + t.val
  · rw [if_pos hs, if_pos hs]; rfl
  · rw [if_neg hs, if_neg hs]; rfl

theorem normed_apply (Y : FVec Ideal S1024x128 .f32) (r : Fin 1024) (d : Fin 128) :
    normed Y (ix2 r d) = Y (ix2 r d) * Ideal.rsqrt (Ideal.div (∑ e : Fin 128, Y (ix2 r e) * Y (ix2 r e)) (Ideal.ofBits .f32 0x43000000#32)
       + Ideal.ofBits .f32 0x358637BD#32) := by
  unfold normed
  pointwise

/-! ## A block's scores -/

/-- What time `s` gives time `t` of a block's output. -/
def given (B Q K U : FVec Ideal S64x16x128 .f32) (i : Fin 64) (t s : Fin 16) (d : Fin 128) : EReal :=
  if s ≤ t then (∑ a : Fin 128, Ideal.exp2 (B (ix3 i t a) - B (ix3 i s a)) * Q (ix3 i t a) * K (ix3 i s a)) * U (ix3 i s d) else 0

variable (B Q K U : FVec Ideal S64x16x128 .f32)

theorem addend_partly (h : Fin 2) (s : Fin 16) (i : Fin 64) (t : Fin 8) (d : Fin 128) :
    addend (sinceMasked B h s) Q K U h s (ix3 i t d) = given B Q K U i ⟨8 * h.val + t.val, by omega⟩ s d := by
  rw [addend_apply]
  unfold given
  simp only [sinceMasked_apply, since_apply, Fin.le_def]
  by_cases hs : s.val ≤ 8 * h.val + t.val
  · simp only [if_pos hs]
  · simp only [if_neg hs, Ideal.exp2_bot, zero_mul, Finset.sum_const_zero]

theorem addend_fully (h : Fin 2) (s : Fin 16) (i : Fin 64) (t : Fin 8) (d : Fin 128) (hs : s.val ≤ 8 * h.val) :
    addend (since B h s) Q K U h s (ix3 i t d) = given B Q K U i ⟨8 * h.val + t.val, by omega⟩ s d := by
  rw [addend_apply]
  unfold given
  have hs' : s.val ≤ 8 * h.val + t.val := by omega
  simp only [since_apply, Fin.le_def, if_pos hs']

theorem sum_sixteen (f : Fin 16 → EReal) : ∑ s, f s = f 0 + f 1 + f 2 + f 3 + f 4 + f 5 + f 6 + f 7 + f 8 + f 9 + f 10 + f 11
    + f 12 + f 13 + f 14 + f 15 := by
  simp only [Fin.sum_univ_castSucc, Finset.univ_eq_empty, Finset.sum_empty, zero_add]
  rfl

theorem zero_start (j : S64x8x128.Idx) : k0_pay161 (F := Ideal) j = 0 := by
  pointwise [k0_pay161]

theorem low_apply (i : Fin 64) (t : Fin 8) (d : Fin 128) :
    low B Q K U (ix3 i t d) = ∑ s, given B Q K U i ⟨t.val, by omega⟩ s d := by
  have e : (⟨8 * (0 : Fin 2).val + t.val, by have := t.2; show 8 * 0 + t.val < 16; omega⟩ : Fin 16) = ⟨t.val, by omega⟩ := Fin.ext (by show 8 * 0 + t.val = t.val; omega)
  have z : ∀ s : Fin 16, 8 ≤ s.val → given B Q K U i ⟨t.val, by omega⟩ s d = 0 := fun s hs =>
    if_neg (by rw [Fin.le_def]; show ¬ s.val ≤ t.val; omega)
  unfold low partly fully
  simp only [List.foldl]
  pointwise
  rw [sum_sixteen, zero_start, zero_add, addend_fully B Q K U 0 0 i t d (by decide)]
  simp only [addend_partly, e]
  rw [z 8 (by decide), z 9 (by decide), z 10 (by decide), z 11 (by decide), z 12 (by decide), z 13 (by decide), z 14 (by decide),
    z 15 (by decide)]
  simp only [add_zero]

theorem high_apply (i : Fin 64) (t : Fin 8) (d : Fin 128) :
    high B Q K U (ix3 i t d) = ∑ s, given B Q K U i ⟨8 + t.val, by omega⟩ s d := by
  unfold high partly fully
  simp only [List.foldl]
  pointwise
  rw [sum_sixteen, zero_start, zero_add]
  simp only [addend_partly]
  rw [addend_fully B Q K U 1 0 i t d (by decide), addend_fully B Q K U 1 1 i t d (by decide),
    addend_fully B Q K U 1 2 i t d (by decide), addend_fully B Q K U 1 3 i t d (by decide),
    addend_fully B Q K U 1 4 i t d (by decide), addend_fully B Q K U 1 5 i t d (by decide),
    addend_fully B Q K U 1 6 i t d (by decide), addend_fully B Q K U 1 7 i t d (by decide),
    addend_fully B Q K U 1 8 i t d (by decide)]
  rfl

theorem inner_apply (i : Fin 64) (t : Fin 16) (d : Fin 128) :
    inner B Q K U (ix2 (row i t) d) = ∑ s, given B Q K U i t s d := by
  unfold inner
  pointwise
  simp only [row_mod, row_div]
  by_cases h : t.val < 8
  · rw [dif_pos h]
    exact low_apply B Q K U i ⟨t.val, h⟩ d
  · rw [dif_neg h]
    have e : (⟨8 + (t.val - 8), by omega⟩ : Fin 16) = t := Fin.ext (by show 8 + (t.val - 8) = t.val; omega)
    exact (high_apply B Q K U i ⟨t.val - 8, by omega⟩ d).trans (by rw [e])

/-! ## The block's output and state, in plain words -/

/-- A block of rows. -/
def rowsOf (X : FVec Ideal S1024x128 .f32) (i : Fin 64) (t : Fin 16) (a : Fin 128) : EReal := X (ix2 (row i t) a)

/-- The kernel's decays in units of `log 2` are the decays. -/
theorem given_eq (Q K U L : FVec Ideal S1024x128 .f32) (i : Fin 64) (t s : Fin 16) (d : Fin 128) :
    given (scaled L) (blocked Q) (blocked K) (blocked U) i t s d =
      score (rowsOf Q i) (rowsOf K i) (rowsOf L i) t s * rowsOf U i s d := by
  unfold given score rowsOf
  simp only [scaled_apply, blocked_apply]
  have e : Named.named (F := Ideal) (φ := .f32) κ "log2e" 0x3FB8AA3B#32 = (((Real.log 2)⁻¹ : ℝ) : EReal) := by
    exact IdealRules.named_const.ideal_named_scalar κ "log2e" _ _ rfl
  rw [e]
  simp only [Cert.Scalar.exp2_sub]
  by_cases h : s ≤ t
  · simp only [if_pos h]
    congr 1
    refine Finset.sum_congr rfl fun a _ => ?_
    rw [mul_comm (Q _ * K _), mul_assoc]
  · simp only [if_neg h, mul_zero, Finset.sum_const_zero, zero_mul]

theorem output_apply (Q K U L : FVec Ideal S1024x128 .f32) (S : Fin 64 → FVec Ideal S128x128 .f32) (i : Fin 64) (t : Fin 16) (d : Fin 128) :
    output Q K U L S (ix2 (row i t) d) =
      spread (rowsOf Q i) (rowsOf K i) (rowsOf U i) (rowsOf L i) (fun a b => S i (ix2 b a)) t d := by
  unfold output spread
  rw [show ∀ (X Y : FVec Ideal S1024x128 .f32) j, addf X Y j = X j + Y j from fun _ _ _ => rfl, inner_apply, allCarried_apply, carried_apply]
  simp only [given_eq]
  rfl

theorem finish_eq (L K U : FVec Ideal S1024x128 .f32) (S : FVec Ideal S128x128 .f32) (i : Fin 64) (b a : Fin 128) :
    finish L K U S i (ix2 b a) = leave (rowsOf K i) (rowsOf U i) (rowsOf L i) (fun a b => S (ix2 b a)) a b := by
  rw [finish_apply]
  unfold leave rowsOf
  rw [mul_comm (S _)]
  refine congrArg _ (Finset.sum_congr rfl fun t _ => mul_comm _ _)

end Cert.KernelIdeal.Recurrence
-- ==== Proof.RecurrenceReference.lean ====
/- The recurrence as the reference writes it: its words, and what they hold at a row. -/
module

public import proofs.«01_k».proof.Proof.RecurrenceBlock
public import proofs.«01_k».proof.Proof.Gen.ReferenceIdeal.Run

@[expose] public section

set_option maxRecDepth 16384

noncomputable section

namespace Cert.ReferenceIdeal.Recurrence

open Cert.ReferenceIdeal Cert.ReferenceIdeal.Gen Idealize.ShloMosaic Idealize.ShloMosaic.StableHlo Cert.Recurrence Cert.KernelIdeal.Recurrence

/-- The gates' lower bound: the running sum over layers of the softmax of their logits. -/
def bound (A : FVec Ideal S2x2048 .f32) : FVec Ideal S2048 .f32 :=
  shapeCast _ (extractStridedSlice S1x2048 ![0, 0] (Host.reduceWindowAdd ![2, 1] ![1, 1] ![1, 0] ![0, 0] (Host.divf (Host.exp (subf A (broadcastInDim S2x2048 ![0, 1] bcast_S1x2048_S2x2048_0_1 (broadcastInDim S1x2048 ![1] bcast_S2048_S1x2048_1 (maximumf (broadcastInDim S2048 ![] bcast_S_S2048 (constant S_ .f32 0xFF800000#32)) (Host.reduce FloatOps.maximumf A (constant S_ .f32 0xFF800000#32) reducesTo_S2x2048_S2048_d0 h_S_)))))) (broadcastInDim S2x2048 ![0, 1] bcast_S1x2048_S2x2048_0_1 (broadcastInDim S1x2048 ![1] bcast_S2048_S1x2048_1 (Host.reduceAdd (Host.exp (subf A (broadcastInDim S2x2048 ![0, 1] bcast_S1x2048_S2x2048_0_1 (broadcastInDim S1x2048 ![1] bcast_S2048_S1x2048_1 (maximumf (broadcastInDim S2048 ![] bcast_S_S2048 (constant S_ .f32 0xFF800000#32)) (Host.reduce FloatOps.maximumf A (constant S_ .f32 0xFF800000#32) reducesTo_S2x2048_S2048_d0 h_S_)))))) (constant S_ .f32 0x00000000#32) reducesTo_S2x2048_S2048_d0 h_S_)))) (broadcastInDim S_ ![] bcast_S_S_ (constant S_ .f32 0x00000000#32)) reduceWindows_S2x2048_S2x2048_w2s1p1_0_w1s1p0_0 h_S_) slices_S2x2048_S1x2048_0_0) shapeCasts_S1x2048_S2048

/-- A row vector, over all rows. -/
abbrev overRows (b : FVec Ideal S2048 .f32) : FVec Ideal S8x16x2048 .f32 :=
  broadcastInDim S8x16x2048 ![0, 1, 2] bcast_S1x1x2048_S8x16x2048_0_1_2 (broadcastInDim S1x1x2048 ![2] bcast_S2048_S1x1x2048_2 b)

/-- The constant one. -/
abbrev ones : FVec Ideal S8x16x2048 .f32 := broadcastInDim S8x16x2048 ![] bcast_S_S8x16x2048 (constant S_ .f32 0x3F800000#32)

/-- The logistic function, as the reference spells it. -/
def logistic (X : FVec Ideal S8x16x2048 .f32) : FVec Ideal S8x16x2048 .f32 := Host.divf ones (addf ones (Host.exp (Host.negf X)))

/-- One less the bound. -/
abbrev rest (b : FVec Ideal S2048 .f32) : FVec Ideal S8x16x2048 .f32 :=
  overRows (subf (broadcastInDim S2048 ![] bcast_S_S2048 (constant S_ .f32 0x3F800000#32)) b)

/-- The logarithm of the forget gate. -/
def logGate (b : FVec Ideal S2048 .f32) (X : FVec Ideal S8x16x2048 .f32) : FVec Ideal S8x16x2048 .f32 :=
  Host.log (addf (overRows b) (mulf (rest b) (logistic X)))

/-- The input gate. -/
def inputGate (b : FVec Ideal S2048 .f32) (X : FVec Ideal S8x16x2048 .f32) : FVec Ideal S8x16x2048 .f32 :=
  mulf (rest b) (logistic (Host.negf X))

/-- The projection's output by sequence and time. -/
abbrev bySequence (Z : FVec Ideal S128x15360 .f32) : FVec Ideal S8x16x15360 .f32 := shapeCast _ Z shapeCasts_S128x15360_S8x16x15360

def query (Z : FVec Ideal S128x15360 .f32) : FVec Ideal S8x16x2048 .f32 :=
  extractStridedSlice S8x16x2048 ![0, 0, 0] (bySequence Z) slices_S8x16x15360_S8x16x2048_0_0_0
def forget (Z : FVec Ideal S128x15360 .f32) : FVec Ideal S8x16x2048 .f32 :=
  extractStridedSlice S8x16x2048 ![0, 0, 2048] (bySequence Z) slices_S8x16x15360_S8x16x2048_0_0_2048
def value (Z : FVec Ideal S128x15360 .f32) : FVec Ideal S8x16x2048 .f32 :=
  extractStridedSlice S8x16x2048 ![0, 0, 4096] (bySequence Z) slices_S8x16x15360_S8x16x2048_0_0_4096
def outGate (Z : FVec Ideal S128x15360 .f32) : FVec Ideal S8x16x2048 .f32 :=
  extractStridedSlice S8x16x2048 ![0, 0, 6144] (bySequence Z) slices_S8x16x15360_S8x16x2048_0_0_6144

/-- By head, then time. -/
def heads (X : FVec Ideal S8x16x2048 .f32) : FVec Ideal S8x16x16x128 .f32 :=
  transpose S8x16x16x128 [0, 2, 1, 3] (shapeCast _ X shapeCasts_S8x16x2048_S8x16x16x128) transposes_S8x16x16x128_S8x16x16x128_0_2_1_3

/-- The running sum over time. -/
def sums (X : FVec Ideal S8x16x16x128 .f32) : FVec Ideal S8x16x16x128 .f32 :=
  Host.reduceWindowAdd ![1, 1, 16, 1] ![1, 1, 1, 1] ![0, 0, 15, 0] ![0, 0, 0, 0] X
    (broadcastInDim S_ ![] bcast_S_S_ (constant S_ .f32 0x00000000#32)) reduceWindows_S8x16x16x128_S8x16x16x128_w1s1p0_0_w1s1p0_0_w16s1p15_0_w1s1p0_0 h_S_

/-- The last time. -/
abbrev final (X : FVec Ideal S8x16x16x128 .f32) : FVec Ideal S8x16x1x128 .f32 :=
  extractStridedSlice S8x16x1x128 ![0, 0, 15, 0] X slices_S8x16x16x128_S8x16x1x128_0_0_15_0

/-- The state by sequence and head. -/
abbrev before (S : FVec Ideal S1x8x16x128x128 .f32) : FVec Ideal S8x16x128x128 .f32 := shapeCast _ S shapeCasts_S1x8x16x128x128_S8x16x128x128

/-- The state after the last time. -/
def after (K V L : FVec Ideal S8x16x16x128 .f32) (S : FVec Ideal S8x16x128x128 .f32) : FVec Ideal S8x16x128x128 .f32 :=
  addf (mulf (broadcastInDim S8x16x128x128 ![0, 1, 2, 3] bcast_S8x16x128x1_S8x16x128x128_0_1_2_3
      (broadcastInDim S8x16x128x1 ![0, 1, 2] bcast_S8x16x128_S8x16x128x1_0_1_2 (Host.exp (shapeCast _ (final L) shapeCasts_S8x16x1x128_S8x16x128)))) S)
    (Host.dotGeneral dot_S8x16x16x128_S8x16x16x128_S8x16x128x128_2_2_3_3_01_01 none
      (mulf K (Host.exp (subf (broadcastInDim S8x16x16x128 ![0, 1, 2, 3] bcast_S8x16x1x128_S8x16x16x128_0_1_2_3 (final L)) L))) V)

/-- By the time that receives. -/
abbrev receiving (X : FVec Ideal S8x16x16x128 .f32) : FVec Ideal S8x16x16x16x128 .f32 :=
  broadcastInDim S8x16x16x16x128 ![0, 1, 2, 3, 4] bcast_S8x16x16x1x128_S8x16x16x16x128_0_1_2_3_4
    (broadcastInDim S8x16x16x1x128 ![0, 1, 2, 4] bcast_S8x16x16x128_S8x16x16x1x128_0_1_2_4 X)

/-- By the time that gives. -/
abbrev giving (X : FVec Ideal S8x16x16x128 .f32) : FVec Ideal S8x16x16x16x128 .f32 :=
  broadcastInDim S8x16x16x16x128 ![0, 1, 2, 3, 4] bcast_S8x16x1x16x128_S8x16x16x16x128_0_1_2_3_4
    (broadcastInDim S8x16x1x16x128 ![0, 1, 3, 4] bcast_S8x16x16x128_S8x16x1x16x128_0_1_3_4 X)

/-- The mask of the times not yet reached. -/
abbrev mask : IVec S8x16x16x16x128 1 :=
  broadcastInDim S8x16x16x16x128 ![0, 1, 2, 3, 4] bcast_S1x1x16x16x1_S8x16x16x16x128_0_1_2_3_4
    (broadcastInDim S1x1x16x16x1 ![2, 3] bcast_S16x16_S1x1x16x16x1_2_3
      (select (cmpi .sge (addi (iotaInDim S16x16 32 0) (broadcastInDim S16x16 ![] bcast_S_S16x16 (constantI S_ 32 0#32))) (iotaInDim S16x16 32 1))
        (broadcastInDim S16x16 ![] bcast_S_S16x16 (constantI S_ 1 1#1)) (broadcastInDim S16x16 ![] bcast_S_S16x16 (constantI S_ 1 0#1))))

/-- How much each time counts at each time. -/
def scores (Q K L : FVec Ideal S8x16x16x128 .f32) : FVec Ideal S8x16x16x16 .f32 :=
  Host.reduceAdd (mulf (mulf (receiving Q) (giving K))
      (Host.exp (select mask (subf (receiving L) (giving L))
        (broadcastInDim S8x16x16x16x128 ![] bcast_S_S8x16x16x16x128 (id (constant S_ .f32 0xFF800000#32))))))
    (constant S_ .f32 0x00000000#32) reducesTo_S8x16x16x16x128_S8x16x16x16_d4 h_S_

/-- The recurrence's output. -/
def out (Q K V L : FVec Ideal S8x16x16x128 .f32) (S : FVec Ideal S8x16x128x128 .f32) : FVec Ideal S8x16x16x128 .f32 :=
  addf (Host.dotGeneral dot_S8x16x16x16_S8x16x16x128_S8x16x16x128_3_2_2_3_01_01 none (scores Q K L) V)
    (Host.dotGeneral dot_S8x16x16x128_S8x16x128x128_S8x16x16x128_3_2_2_3_01_01 none (mulf Q (Host.exp L)) S)

/-- Back by time, then head. -/
abbrev byTime (O : FVec Ideal S8x16x16x128 .f32) : FVec Ideal S8x16x16x128 .f32 :=
  transpose S8x16x16x128 [0, 2, 1, 3] O transposes_S8x16x16x128_S8x16x16x128_0_2_1_3

/-- Each head over its root mean square. -/
def normed (Y : FVec Ideal S8x16x16x128 .f32) : FVec Ideal S8x16x16x128 .f32 :=
  mulf Y (broadcastInDim S8x16x16x128 ![0, 1, 2, 3] bcast_S8x16x16x1_S8x16x16x128_0_1_2_3 (Host.rsqrt (addf
    (Host.divf (broadcastInDim S8x16x16x1 ![0, 1, 2] bcast_S8x16x16_S8x16x16x1_0_1_2
        (Host.reduceAdd (mulf Y Y) (constant S_ .f32 0x00000000#32) reducesTo_S8x16x16x128_S8x16x16_d3 h_S_))
      (broadcastInDim S8x16x16x1 ![] bcast_S_S8x16x16x1 (constant S_ .f32 0x43000000#32)))
    (broadcastInDim S8x16x16x1 ![] bcast_S_S8x16x16x1 (constant S_ .f32 0x358637BD#32)))))

/-- Gain and output gate. -/
def gated (Y : FVec Ideal S8x16x16x128 .f32) (G : FVec Ideal S1x2048 .f32) (X : FVec Ideal S8x16x2048 .f32) : FVec Ideal S128x2048 .bf16 :=
  truncf .bf16 (shapeCast _ (mulf (mulf (shapeCast _ Y shapeCasts_S8x16x16x128_S8x16x2048) (overRows (shapeCast _ G shapeCasts_S1x2048_S2048)))
    (mulf X (logistic X))) shapeCasts_S8x16x2048_S128x2048) bitsLt_bf16_f32

variable (m : (ℓ : Loc nD τ sig) → Buf (Elt Ideal) ℓ) (c : Dev nD)

/-- The reference's second result. -/
def state (A : FVec Ideal S2x2048 .f32) (Z : FVec Ideal S128x15360 .f32) (S : FVec Ideal S1x8x16x128x128 .f32) : FVec Ideal S8x16x128x128 .f32 :=
  after (heads (inputGate (bound A) (forget Z))) (heads (value Z)) (sums (heads (logGate (bound A) (forget Z)))) (before S)

/-- Its first. -/
def result (A : FVec Ideal S2x2048 .f32) (Z : FVec Ideal S128x15360 .f32) (G : FVec Ideal S1x2048 .f32) (S : FVec Ideal S1x8x16x128x128 .f32) :
    FVec Ideal S128x2048 .bf16 :=
  gated (normed (byTime (out (heads (query Z)) (heads (inputGate (bound A) (forget Z))) (heads (value Z))
    (sums (heads (logGate (bound A) (forget Z)))) (before S)))) G (outGate Z)

theorem state_word : Cert.ReferenceIdeal.Value.res_main_v90 m c = state (m ((c.tc : Thread nD τ).loc main_arg1))
    (m ((c.tc : Thread nD τ).loc main_arg0)) (m ((c.tc : Thread nD τ).loc main_arg3)) := by exact rfl

theorem result_word : Cert.ReferenceIdeal.Value.res_main_v110 m c = result (m ((c.tc : Thread nD τ).loc main_arg1))
    (m ((c.tc : Thread nD τ).loc main_arg0)) (m ((c.tc : Thread nD τ).loc main_arg2)) (m ((c.tc : Thread nD τ).loc main_arg3)) := by exact rfl

theorem heads_apply (X : FVec Ideal S8x16x2048 .f32) (s : Fin 8) (h t : Fin 16) (d : Fin 128) :
    heads X (ix4 s h t d) = X (ix3 s t ⟨h.val * 128 + d.val, by omega⟩) := by
  unfold heads
  pointwise

theorem after_apply (K V L : FVec Ideal S8x16x16x128 .f32) (S : FVec Ideal S8x16x128x128 .f32) (s : Fin 8) (h : Fin 16) (a b : Fin 128) :
    after K V L S (ix4 s h a b) =
      leave (fun t a => K (ix4 s h t a)) (fun t a => V (ix4 s h t a)) (fun t a => L (ix4 s h t a)) (fun a b => S (ix4 s h a b)) a b := by
  unfold after leave
  pointwise

theorem reached (t u : Fin 16) : Scalar.select (IntOp.cmpi .sge (IntOp.addi (BitVec.ofNat 32 t.val) 0#32) (BitVec.ofNat 32 u.val)) 1#1 0#1
    = if u ≤ t then 1#1 else 0#1 := by
  revert t u; decide +kernel

theorem scores_apply (Q K L : FVec Ideal S8x16x16x128 .f32) (s : Fin 8) (h t u : Fin 16) :
    scores Q K L (ix4 s h t u) =
      score (fun t a => Q (ix4 s h t a)) (fun t a => K (ix4 s h t a)) (fun t a => L (ix4 s h t a)) t u := by
  unfold scores score
  pointwise
  refine Finset.sum_congr rfl fun a _ => congrArg _ ?_
  rw [reached]
  by_cases hu : u ≤ t
  · rw [if_pos hu, if_pos hu]; rfl
  · rw [if_neg hu, if_neg hu]
    exact (congrArg Ideal.exp (EReal.neg_eq_top_iff.mp rfl : Ideal.ofBits .f32 0xFF800000#32 = ⊥)).trans Ideal.exp_bot

theorem out_apply (Q K V L : FVec Ideal S8x16x16x128 .f32) (S : FVec Ideal S8x16x128x128 .f32) (s : Fin 8) (h t : Fin 16) (b : Fin 128) :
    out Q K V L S (ix4 s h t b) =
      spread (fun t a => Q (ix4 s h t a)) (fun t a => K (ix4 s h t a)) (fun t a => V (ix4 s h t a)) (fun t a => L (ix4 s h t a))
        (fun a b => S (ix4 s h a b)) t b := by
  unfold out spread
  pointwise
  simp only [scores_apply]

theorem normed_apply (Y : FVec Ideal S8x16x16x128 .f32) (s : Fin 8) (t h : Fin 16) (d : Fin 128) :
    normed Y (ix4 s t h d) = unit (fun e => Y (ix4 s t h e)) d := by
  unfold normed unit
  pointwise

/-- The logistic function. -/
abbrev sigma (x : EReal) : EReal := Ideal.div 1 (1 + Ideal.exp (-x))

theorem gated_apply (Y : FVec Ideal S8x16x16x128 .f32) (G : FVec Ideal S1x2048 .f32) (X : FVec Ideal S8x16x2048 .f32) (r : Fin 128) (l : Fin 2048) :
    gated Y G X (ix2 r l) = Y (ix4 ⟨r.val / 16, by omega⟩ ⟨r.val % 16, by omega⟩ ⟨l.val / 128, by omega⟩ ⟨l.val % 128, by omega⟩) * G (ix2 0 l)
      * (X (ix3 ⟨r.val / 16, by omega⟩ ⟨r.val % 16, by omega⟩ l) * sigma (X (ix3 ⟨r.val / 16, by omega⟩ ⟨r.val % 16, by omega⟩ l))) := by
  unfold gated logistic
  pointwise

section

variable (b : FVec Ideal S2048 .f32) (Z : FVec Ideal S128x15360 .f32) (s : Fin 8) (t : Fin 16) (l : Fin 2048)

theorem query_apply : query Z (ix3 s t l) = Z (ix2 ⟨s.val * 16 + t.val, by omega⟩ ⟨l.val, by omega⟩) := by
  unfold query
  pointwise

theorem value_apply : value Z (ix3 s t l) = Z (ix2 ⟨s.val * 16 + t.val, by omega⟩ ⟨4096 + l.val, by omega⟩) := by
  unfold value
  pointwise

theorem outGate_apply : outGate Z (ix3 s t l) = Z (ix2 ⟨s.val * 16 + t.val, by omega⟩ ⟨6144 + l.val, by omega⟩) := by
  unfold outGate
  pointwise

theorem logGate_apply : logGate b (forget Z) (ix3 s t l) = Ideal.log (b (ix1 l) + (1 - b (ix1 l))
    * sigma (Z (ix2 ⟨s.val * 16 + t.val, by omega⟩ ⟨2048 + l.val, by omega⟩))) := by
  unfold logGate logistic forget
  pointwise

theorem inputGate_apply : inputGate b (forget Z) (ix3 s t l) = (1 - b (ix1 l))
    * sigma (-Z (ix2 ⟨s.val * 16 + t.val, by omega⟩ ⟨2048 + l.val, by omega⟩)) := by
  unfold inputGate logistic forget
  pointwise

end

theorem foldl_add (g : Fin 16 → EReal) : (List.finRange 16).foldl (fun r n => r + g n) 0 = ∑ n, g n := by
  rw [sum_sixteen]
  simp only [List.finRange, List.ofFn, Fin.foldr, Fin.foldr.loop, List.foldl, zero_add]
  rfl

/-- A window of sixteen that ends at `t` holds the times to `t`. -/
theorem window_eq (x : Fin 16 → EReal) (t : Fin 16) :
    (∑ n : Fin 16, if h : 15 ≤ t.val + n.val ∧ t.val + n.val - 15 < 16 then x ⟨t.val + n.val - 15, h.2⟩ else 0) = cum x t := by
  unfold cum
  rw [sum_sixteen, sum_sixteen]
  fin_cases t <;> simp [Fin.le_def, add_assoc]

theorem sums_apply (X : FVec Ideal S8x16x16x128 .f32) (s : Fin 8) (h t : Fin 16) (d : Fin 128) :
    sums X (ix4 s h t d) = cum (fun u => X (ix4 s h u d)) t := by
  have hw : ∀ (n : Fin 16) (a : Fin 4), ((⟨4, ![1, 1, 16, 1]⟩ : Shape).rowMajor.symm n a).val = (![0, 0, n.val, 0] : Fin 4 → ℕ) a := by
    decide +kernel
  have hv : (broadcastInDim S_ ![] bcast_S_S_ (constant (F := Ideal) S_ .f32 0x00000000#32)) (Shape.Idx.first h_S_) = 0 := by
    exact Ideal.ofBits_zero_f32
  rw [← window_eq, ← foldl_add]
  refine congr (congr (congrArg List.foldl ?_) hv) rfl
  funext r n
  refine congrArg (r + ·) ?_
  have key : ∀ a : Fin 4, (ix4 s h t d a).val * (![1, 1, 1, 1] : Fin 4 → ℕ) a + ((⟨4, ![1, 1, 16, 1]⟩ : Shape).rowMajor.symm n a).val
      - (![0, 0, 15, 0] : Fin 4 → ℕ) a = (![s.val, h.val, t.val + n.val - 15, d.val] : Fin 4 → ℕ) a := by
    intro a
    rw [hw n a]
    fin_cases a <;> simp
  have low : ∀ a : Fin 4, a ≠ 2 → (![0, 0, 15, 0] : Fin 4 → ℕ) a = 0 := by decide
  have at2 : (ix4 s h t d 2).val * (![1, 1, 1, 1] : Fin 4 → ℕ) 2 + ((⟨4, ![1, 1, 16, 1]⟩ : Shape).rowMajor.symm n 2).val = t.val + n.val := by
    rw [hw n 2]; simp
  by_cases hn : 15 ≤ t.val + n.val ∧ t.val + n.val - 15 < 16
  · rw [dif_pos hn]
    refine (dif_pos fun a => ⟨?_, ?_⟩).trans (congrArg X (funext fun a => Fin.ext ((key a).trans ?_)))
    · fin_cases a <;> rfl
    · by_cases ha : a = 2
      · subst ha
        exact hn.1.trans_eq at2.symm
      · exact (low a ha).le.trans (Nat.zero_le _)
    · refine (key a).trans_lt ?_
      fin_cases a
      · exact s.2
      · exact h.2
      · exact hn.2
      · exact d.2
  · rw [dif_neg hn]
    refine (dif_neg fun hp => hn ⟨(hp 2).1.trans_eq at2, ?_⟩).trans hv
    exact (key 2).symm.trans_lt (hp 2).2

end Cert.ReferenceIdeal.Recurrence
-- ==== Proof.Recurrence.lean ====
/- The recurrence kernel's two results are the reference's. -/
module

public import proofs.«01_k».proof.Proof.RecurrenceReference
public import Idealize.ShloMosaic.Lib.Pipeline.ValueKit

@[expose] public section

set_option maxRecDepth 16384

noncomputable section

namespace Cert.KernelIdeal.Recurrence

open Cert.KernelIdeal Cert.KernelIdeal.Gen Idealize.ShloMosaic Idealize.ShloMosaic.TcCoe Idealize.SL.Sem Cert.Recurrence

open Idealize.ShloMosaic.Pipeline (Dat)

variable (m : (ℓ : Loc nD τ sig) → Buf (Elt Ideal) ℓ)

/-! ## The launch's blocks -/

/-- Where each window's block lies at a grid point. -/
theorem idx : ∀ t : Fin cfg0.N, win0_0.index t = ![0, (grid0.coords t 1).val] ∧ win0_1.index t = ![0, 2 + (grid0.coords t 1).val]
    ∧ win0_2.index t = ![0, 4 + (grid0.coords t 1).val] ∧ win0_3.index t = ![0, 6 + (grid0.coords t 1).val]
    ∧ win0_4.index t = ![0, (grid0.coords t 1).val] ∧ win0_5.index t = ![0, (grid0.coords t 1).val]
    ∧ win0_6.index t = ![0, (grid0.coords t 1).val, 0, 0]
    ∧ win0_7.index t = ![0, (grid0.coords t 1).val] ∧ win0_8.index t = ![0, (grid0.coords t 1).val, 0, 0] :=
  (by decide +kernel : ∀ t : Fin grid0.N, _)

/-- The group of heads of a grid point. -/
abbrev group (t : Fin cfg0.N) : Fin 2 := grid0.coords t 1

section

variable (c : Dev nD) (t : Fin cfg0.N)

abbrev Z : FVec Ideal S128x15360 .f32 := m ((c : Thread nD τ).loc main_arg0)
abbrev A : FVec Ideal S2x2048 .f32 := m ((c : Thread nD τ).loc main_arg1)
abbrev G : FVec Ideal S1x2048 .f32 := m ((c : Thread nD τ).loc main_arg2)
abbrev S : FVec Ideal S1x8x16x128x128 .f32 := m ((c : Thread nD τ).loc main_arg3)

theorem block_q (r : Fin 128) (l : Fin 1024) : iblk m c 0 t (ix2 r l) = Z m c (ix2 r ⟨1024 * (group t).val + l.val, by omega⟩) := by
  blk_point [iblk, V, idx t]
  all_goals (simp only [group]; omega)

theorem block_f (r : Fin 128) (l : Fin 1024) : iblk m c 1 t (ix2 r l) = Z m c (ix2 r ⟨2048 + (1024 * (group t).val + l.val), by omega⟩) := by
  blk_point [iblk, V, idx t]
  all_goals (simp only [group]; omega)

theorem block_v (r : Fin 128) (l : Fin 1024) : iblk m c 2 t (ix2 r l) = Z m c (ix2 r ⟨4096 + (1024 * (group t).val + l.val), by omega⟩) := by
  blk_point [iblk, V, idx t]
  all_goals (simp only [group]; omega)

theorem block_g (r : Fin 128) (l : Fin 1024) : iblk m c 3 t (ix2 r l) = Z m c (ix2 r ⟨6144 + (1024 * (group t).val + l.val), by omega⟩) := by
  blk_point [iblk, V, idx t]
  all_goals (simp only [group]; omega)

theorem entry_b : V m c main_v14 = shapeCast _ (Cert.ReferenceIdeal.Recurrence.bound (A m c)) shapeCasts_S2048_S1x2048 := by
  unfold V
  simp only [hostOps0, hostOps0_1, hostOps0_2, List.flatten_cons, List.flatten_nil, List.append_nil, List.cons_append, List.nil_append]
  after_results
  rfl

theorem entry_n : V m c main_v16 = shapeCast _ (shapeCast S2048 (G m c) shapeCasts_S1x2048_S2048) shapeCasts_S2048_S1x2048 := by
  unfold V
  simp only [hostOps0, hostOps0_1, hostOps0_2, List.flatten_cons, List.flatten_nil, List.append_nil, List.cons_append, List.nil_append]
  after_results
  rfl

theorem entry_s : V m c main_v17 = shapeCast _ (S m c) shapeCasts_S1x8x16x128x128_S8x16x128x128 := by
  unfold V
  simp only [hostOps0, hostOps0_1, hostOps0_2, List.flatten_cons, List.flatten_nil, List.append_nil, List.cons_append, List.nil_append]
  after_results
  rfl

theorem block_b (l : Fin 1024) : iblk m c 4 t (ix2 0 l) =
    Cert.ReferenceIdeal.Recurrence.bound (A m c) (ix1 ⟨1024 * (group t).val + l.val, by omega⟩) := by
  refine (congrFun (entry_b m c) (((cfg0.win 4).blk t).view.emb (ix2 0 l))).trans ?_
  pointwise
  blk_ext [idx t]
  all_goals (simp only [group]; omega)

theorem block_n (l : Fin 1024) : iblk m c 5 t (ix2 0 l) = G m c (ix2 0 ⟨1024 * (group t).val + l.val, by omega⟩) := by
  refine (congrFun (entry_n m c) (((cfg0.win 5).blk t).view.emb (ix2 0 l))).trans ?_
  pointwise
  blk_ext [idx t]
  all_goals (simp only [group]; omega)

theorem block_s (s p : Fin 8) (a b : Fin 128) : iblk m c 6 t (ix4 s p a b) = S m c (ix5 0 s ⟨8 * (group t).val + p.val, by omega⟩ a b) := by
  refine (congrFun (entry_s m c) (((cfg0.win 6).blk t).view.emb (ix4 s p a b))).trans ?_
  pointwise
  blk_ext [idx t]
  all_goals (simp only [group]; omega)

/-! ## The gates, read -/

/-- The logistic function. -/
abbrev sigma (x : EReal) : EReal := Ideal.div 1 (1 + Ideal.exp (-x))

theorem logGate_apply (lb : FVec Ideal S1x1024 .f32) (f : FVec Ideal S128x1024 .f32) (r : Fin 128) (l : Fin 1024) :
    logGate lb f (ix2 r l) = Ideal.log (lb (ix2 0 l) + (1 - lb (ix2 0 l)) * sigma (f (ix2 r l))) := by
  unfold logGate coBound halfTanh
  pointwise
  simp only [Cert.Scalar.ofBits_half, Cert.Scalar.half_add_tanh]

theorem inputGate_apply (lb : FVec Ideal S1x1024 .f32) (f : FVec Ideal S128x1024 .f32) (r : Fin 128) (l : Fin 1024) :
    inputGate lb f (ix2 r l) = (1 - lb (ix2 0 l)) * sigma (-f (ix2 r l)) := by
  unfold inputGate coBound halfTanh
  pointwise
  simp only [Cert.Scalar.ofBits_half, Cert.Scalar.half_sub_tanh]

theorem rowsOf_stack (X : FVec Ideal S128x1024 .f32) (i : Fin 64) (t : Fin 16) (a : Fin 128) :
    rowsOf (stack X) i t a = X (ix2 ⟨i.val % 8 * 16 + t.val, by omega⟩ ⟨i.val / 8 * 128 + a.val, by omega⟩) := by
  unfold rowsOf
  rw [stack_apply]
  congr 2
  · apply Fin.ext; simp only [row]; omega
  · apply Fin.ext; simp only [row]; omega

/-! ## The states the scratch buffer holds -/

theorem flip_apply (X : FVec Ideal S128x128 .f32) (u v : Fin 1) (a b : Fin 128) :
    shapeCast S1x1x128x128 (transpose S128x128 [1, 0] X transposes_S128x128_p1_0_S128x128) shapeCasts_S128x128_S1x1x128x128 (ix4 u v a b)
      = X (ix2 b a) := by
  pointwise

theorem flat_apply (X : FVec Ideal S1x1x128x128 .f32) (u v : Fin 1) (a b : Fin 128) :
    shapeCast S128x128 X shapeCasts_S1x1x128x128_S128x128 (ix2 a b) = X (ix4 u v a b) := by
  pointwise
  congr 2 <;> exact Subsingleton.elim _ _

theorem scratch_canon (c : Dev nD) (arg9 : Memref sig .tc .vmem S8x8x128x128 .f32) (harg9 : arg9.IsWhole) (x6 : Vec Ideal S8x8x128x128 .f32)
    (s p : Fin 8) (a b : Fin 128) :
    View.canon (kernelRun0_A.sl.HS0_64 c arg9 harg9 x6) (ix4 s p b a) = x6 (ix4 s p a b) := by
  refine View.canon_apply_of_pieces (fun y => x6 (ix4 (y 0) (y 1) (y 3) (y 2))) _ ?_ (ix4 s p b a) ?_
  · rw [scratch_pieces]
    intro q hq x
    obtain ⟨n, rfl⟩ := (List.mem_ofFn' _ _).mp hq
    clear hq
    dsimp only
    idx_vars x
    rw [flip_apply, flat_apply _ x0 x1]
    refine (congrFun (harg9.read_unread x6) _).trans (congrArg x6 (funext fun e => Fin.ext ?_))
    fin_cases e <;> rfl
  · rw [scratch_pieces]
    refine ⟨_, (List.mem_ofFn' _ _).mpr ⟨⟨63 - (s.val * 8 + p.val), by omega⟩, rfl⟩, (Rect.mem_set_unit (inb := loadInb _)).mpr fun e => ?_⟩
    have hr : (⟨63 - (s.val * 8 + p.val), by omega⟩ : Fin 64).rev.val = s.val * 8 + p.val := by simp only [Fin.val_rev]; omega
    rw [hr]
    have h0 : (s.val * 8 + p.val) / 8 = s.val := by omega
    have h1 : (s.val * 8 + p.val) % 8 = p.val := by omega
    rw [h0, h1]
    fin_cases e
    · exact ⟨le_refl _, Nat.lt_succ_self _⟩
    · exact ⟨le_refl _, Nat.lt_succ_self _⟩
    · exact ⟨Nat.zero_le _, by show b.val < 0 + 128; omega⟩
    · exact ⟨Nat.zero_le _, by show a.val < 0 + 128; omega⟩

theorem start_apply (c : Dev nD) (arg12 : Memref sig .tc .vmem S8x8x128x128 .f32) (arg9 : Memref sig .tc .vmem S8x8x128x128 .f32) (harg9 : arg9.IsWhole)
    (x6 : Vec Ideal S8x8x128x128 .f32) (i : Fin 64) (a b : Fin 128) :
    start arg12 (kernelRun0_A.sl.HS0_64 c arg9 harg9 x6) i (ix2 b a) = x6 (ix4 ⟨i.val % 8, by omega⟩ ⟨i.val / 8, by omega⟩ a b) := by
  unfold start
  rw [flat_apply _ 0 0, View.readCov_eq_canon']
  refine Eq.trans ?_ (scratch_canon c arg9 harg9 x6 ⟨i.val % 8, by omega⟩ ⟨i.val / 8, by omega⟩ a b)
  refine congrArg _ (funext fun e => Fin.ext ?_)
  fin_cases e
  · rfl
  · rfl
  · exact (Nat.zero_add _).trans (Nat.one_mul _)
  · exact (Nat.zero_add _).trans (Nat.one_mul _)

/-- The states the body stores, cell by cell. -/
theorem state_canon (W : Fin 64 → FVec Ideal S128x128 .f32) (s p : Fin 8) (a b : Fin 128) :
    View.canon (List.ofFn fun n : Fin 64 => (⟨Rect.unit (s := S8x8x128x128) ![n.rev.val % 8, n.rev.val / 8, 0, 0] S1x1x128x128.size (blockInb n.rev),
      shapeCast S1x1x128x128 (transpose S128x128 [1, 0] (W n.rev)
        transposes_S128x128_p1_0_S128x128) shapeCasts_S128x128_S1x1x128x128⟩ : View.Piece (Elt Ideal) S8x8x128x128 .f32)) (ix4 s p a b)
      = W ⟨p.val * 8 + s.val, by omega⟩ (ix2 b a) := by
  have w8 : ∀ n : Fin 8, n.val < 8 := fun n => n.2
  refine View.canon_apply_of_pieces (Val := Elt Ideal) (S := S8x8x128x128) (e := .f32) (fun y => W ⟨(y 1).val * 8 + (y 0).val, by have := w8 (y 1); have := w8 (y 0); omega⟩ (ix2 (y 3) (y 2))) _ ?_ (ix4 s p a b) ?_
  · intro q hq x
    obtain ⟨n, rfl⟩ := (List.mem_ofFn' _ _).mp hq
    clear hq
    dsimp only
    idx_vars x
    rw [flip_apply]
    refine congr (congrArg W (Fin.ext ?_)) (funext fun e => Fin.ext ?_)
    · show n.rev.val = (n.rev.val / 8 + 1 * x1.val) * 8 + (n.rev.val % 8 + 1 * x0.val)
      omega
    · fin_cases e
      · exact ((Nat.zero_add _).trans (Nat.one_mul _)).symm
      · exact ((Nat.zero_add _).trans (Nat.one_mul _)).symm
  · refine ⟨_, (List.mem_ofFn' _ _).mpr ⟨⟨63 - (p.val * 8 + s.val), by omega⟩, rfl⟩, (Rect.mem_set_unit (inb := blockInb _)).mpr fun e => ?_⟩
    have hr : (⟨63 - (p.val * 8 + s.val), by omega⟩ : Fin 64).rev.val = p.val * 8 + s.val := by simp only [Fin.val_rev]; omega
    rw [hr]
    have h0 : (p.val * 8 + s.val) / 8 = p.val := by omega
    have h1 : (p.val * 8 + s.val) % 8 = s.val := by omega
    rw [h0, h1]
    fin_cases e
    · exact ⟨le_refl _, Nat.lt_succ_self _⟩
    · exact ⟨le_refl _, Nat.lt_succ_self _⟩
    · exact ⟨Nat.zero_le _, by show a.val < 0 + 128; omega⟩
    · exact ⟨Nat.zero_le _, by show b.val < 0 + 128; omega⟩

/-! ## Block by block, the kernel's words are the reference's -/

section

variable (c : Dev nD) (t : Fin cfg0.N) (i : Fin 64)

/-- The head a block of rows is of. -/
abbrev headOf : Fin 16 := ⟨8 * (group t).val + i.val / 8, by omega⟩

/-- The sequence it is of. -/
abbrev seqOf : Fin 8 := ⟨i.val % 8, by omega⟩

abbrev lb : FVec Ideal Cert.ReferenceIdeal.S2048 .f32 := Cert.ReferenceIdeal.Recurrence.bound (A m c)

theorem column_eq (a : Fin 128) (h : 1024 * (group t).val + (i.val / 8 * 128 + a.val) < 2048) :
    (⟨1024 * (group t).val + (i.val / 8 * 128 + a.val), h⟩ : Fin 2048) = ⟨(headOf t i).val * 128 + a.val, by omega⟩ := by
  apply Fin.ext
  simp only [headOf]
  omega

theorem column_late (a : Fin 128) (h : 2048 + (1024 * (group t).val + (i.val / 8 * 128 + a.val)) < 15360) :
    (⟨2048 + (1024 * (group t).val + (i.val / 8 * 128 + a.val)), h⟩ : Fin 15360) = ⟨2048 + ((headOf t i).val * 128 + a.val), by omega⟩ := by
  apply Fin.ext
  simp only [headOf]
  omega

theorem rows_q (u : Fin 16) (a : Fin 128) : rowsOf (stack (iblk m c 0 t)) i u a =
    Cert.ReferenceIdeal.Recurrence.heads (Cert.ReferenceIdeal.Recurrence.query (Z m c)) (ix4 (seqOf i) (headOf t i) u a) := by
  rw [rowsOf_stack, block_q, Cert.ReferenceIdeal.Recurrence.heads_apply, Cert.ReferenceIdeal.Recurrence.query_apply]
  congr 2
  apply Fin.ext
  simp only [headOf]
  omega

theorem rows_v (u : Fin 16) (a : Fin 128) : rowsOf (stack (iblk m c 2 t)) i u a =
    Cert.ReferenceIdeal.Recurrence.heads (Cert.ReferenceIdeal.Recurrence.value (Z m c)) (ix4 (seqOf i) (headOf t i) u a) := by
  rw [rowsOf_stack, block_v, Cert.ReferenceIdeal.Recurrence.heads_apply, Cert.ReferenceIdeal.Recurrence.value_apply]
  congr 2
  apply Fin.ext
  simp only [headOf]
  omega

theorem rows_k (u : Fin 16) (a : Fin 128) : rowsOf (stack (inputGate (iblk m c 4 t) (iblk m c 1 t))) i u a =
    Cert.ReferenceIdeal.Recurrence.heads (Cert.ReferenceIdeal.Recurrence.inputGate (lb m c) (Cert.ReferenceIdeal.Recurrence.forget (Z m c)))
      (ix4 (seqOf i) (headOf t i) u a) := by
  rw [rowsOf_stack, inputGate_apply, block_f, block_b, Cert.ReferenceIdeal.Recurrence.heads_apply,
    Cert.ReferenceIdeal.Recurrence.inputGate_apply]
  simp only [column_eq t i, column_late t i]

theorem rows_log (u : Fin 16) (a : Fin 128) : rowsOf (stack (logGate (iblk m c 4 t) (iblk m c 1 t))) i u a =
    Cert.ReferenceIdeal.Recurrence.heads (Cert.ReferenceIdeal.Recurrence.logGate (lb m c) (Cert.ReferenceIdeal.Recurrence.forget (Z m c)))
      (ix4 (seqOf i) (headOf t i) u a) := by
  rw [rowsOf_stack, logGate_apply, block_f, block_b, Cert.ReferenceIdeal.Recurrence.heads_apply,
    Cert.ReferenceIdeal.Recurrence.logGate_apply]
  simp only [column_eq t i, column_late t i]

theorem rows_sum (u : Fin 16) (a : Fin 128) : rowsOf (running (stack (logGate (iblk m c 4 t) (iblk m c 1 t)))) i u a =
    Cert.ReferenceIdeal.Recurrence.sums (Cert.ReferenceIdeal.Recurrence.heads
      (Cert.ReferenceIdeal.Recurrence.logGate (lb m c) (Cert.ReferenceIdeal.Recurrence.forget (Z m c)))) (ix4 (seqOf i) (headOf t i) u a) := by
  rw [Cert.ReferenceIdeal.Recurrence.sums_apply]
  unfold rowsOf
  rw [running_apply]
  exact congrArg (fun f => cum f u) (funext fun s => rows_log m c t i s a)

theorem start_eq (arg12 : Memref sig .tc .vmem S8x8x128x128 .f32) (arg9 : Memref sig .tc .vmem S8x8x128x128 .f32) (harg9 : arg9.IsWhole) (a b : Fin 128) :
    start arg12 (kernelRun0_A.sl.HS0_64 c arg9 harg9 (iblk m c 6 t)) i (ix2 b a) =
      Cert.ReferenceIdeal.Recurrence.before (S m c) (ix4 (seqOf i) (headOf t i) a b) := by
  rw [start_apply, block_s]
  unfold Cert.ReferenceIdeal.Recurrence.before
  pointwise

end

/-! ## The results -/

section

variable (c : Dev nD) (t : Fin cfg0.N)

theorem place_state (s p : Fin 8) (a b : Fin 128) : ((cfg0.win 8).blk t).view.emb (ix4 s p a b) =
    ix4 s (⟨8 * (group t).val + p.val, by omega⟩ : Fin 16) a b := by
  blk_ext [idx t]
  all_goals (simp only [group]; omega)

theorem place_output (r : Fin 128) (l : Fin 1024) : ((cfg0.win 7).blk t).view.emb (ix2 r l) =
    ix2 r (⟨1024 * (group t).val + l.val, by omega⟩ : Fin 2048) := by
  blk_ext [idx t]
  all_goals (simp only [group]; omega)

/-- The state a block of rows leaves is the reference's. -/
theorem point_state (arg12 : Memref sig .tc .vmem S8x8x128x128 .f32) (arg9 : Memref sig .tc .vmem S8x8x128x128 .f32) (harg9 : arg9.IsWhole)
    (i : Fin 64) (a b : Fin 128) :
    finish (running (stack (logGate (iblk m c 4 t) (iblk m c 1 t)))) (stack (inputGate (iblk m c 4 t) (iblk m c 1 t))) (stack (iblk m c 2 t))
        (start arg12 (kernelRun0_A.sl.HS0_64 c arg9 harg9 (iblk m c 6 t)) i) i (ix2 b a) =
      Cert.ReferenceIdeal.Recurrence.state (A m c) (Z m c) (S m c) (ix4 (seqOf i) (headOf t i) a b) := by
  rw [finish_eq]
  unfold Cert.ReferenceIdeal.Recurrence.state
  rw [Cert.ReferenceIdeal.Recurrence.after_apply]
  rw [funext fun u => funext fun a => rows_k m c t i u a, funext fun u => funext fun a => rows_v m c t i u a,
    funext fun u => funext fun a => rows_sum m c t i u a,
    funext fun a => funext fun b => start_eq m c t i arg12 arg9 harg9 a b]

/-- So is the output of its rows, before the norm. -/
theorem point_output (arg12 : Memref sig .tc .vmem S8x8x128x128 .f32) (arg9 : Memref sig .tc .vmem S8x8x128x128 .f32) (harg9 : arg9.IsWhole)
    (i : Fin 64) (u : Fin 16) (d : Fin 128) :
    output (stack (iblk m c 0 t)) (stack (inputGate (iblk m c 4 t) (iblk m c 1 t))) (stack (iblk m c 2 t))
        (running (stack (logGate (iblk m c 4 t) (iblk m c 1 t)))) (start arg12 (kernelRun0_A.sl.HS0_64 c arg9 harg9 (iblk m c 6 t)))
        (ix2 (row i u) d) =
      Cert.ReferenceIdeal.Recurrence.out (Cert.ReferenceIdeal.Recurrence.heads (Cert.ReferenceIdeal.Recurrence.query (Z m c)))
        (Cert.ReferenceIdeal.Recurrence.heads (Cert.ReferenceIdeal.Recurrence.inputGate (lb m c) (Cert.ReferenceIdeal.Recurrence.forget (Z m c))))
        (Cert.ReferenceIdeal.Recurrence.heads (Cert.ReferenceIdeal.Recurrence.value (Z m c)))
        (Cert.ReferenceIdeal.Recurrence.sums (Cert.ReferenceIdeal.Recurrence.heads
          (Cert.ReferenceIdeal.Recurrence.logGate (lb m c) (Cert.ReferenceIdeal.Recurrence.forget (Z m c)))))
        (Cert.ReferenceIdeal.Recurrence.before (S m c)) (ix4 (seqOf i) (headOf t i) u d) := by
  rw [output_apply, Cert.ReferenceIdeal.Recurrence.out_apply]
  rw [funext fun u => funext fun a => rows_q m c t i u a, funext fun u => funext fun a => rows_k m c t i u a,
    funext fun u => funext fun a => rows_v m c t i u a, funext fun u => funext fun a => rows_sum m c t i u a,
    funext fun a => funext fun b => start_eq m c t i arg12 arg9 harg9 a b]

end

/-- What the last step stores, at a cell. -/
theorem stored_apply (Y g : FVec Ideal S128x1024 .f32) (n : FVec Ideal S1x1024 .f32) (r : Fin 128) (l : Fin 1024) :
    k0_pay1 Y g n (ix2 r l) = Y (ix2 r l) * n (ix2 0 l) * (g (ix2 r l) * sigma (g (ix2 r l))) := by
  pointwise [k0_pay1]
  simp only [Cert.Scalar.ofBits_half, Cert.Scalar.half_add_tanh]

/-- The reference's first result, at a cell of a block. -/
theorem result_apply (c : Dev nD) (t : Fin cfg0.N) (r : Fin 128) (l : Fin 1024) (i : Fin 64) (u : Fin 16) (hi : i.val = l.val / 128 * 8 + r.val / 16)
    (hu : u.val = r.val % 16) :
    Cert.ReferenceIdeal.Recurrence.result (A m c) (Z m c) (G m c) (S m c) (ix2 r ⟨1024 * (group t).val + l.val, by omega⟩) =
      Cert.Recurrence.unit (fun d => Cert.ReferenceIdeal.Recurrence.out (Cert.ReferenceIdeal.Recurrence.heads (Cert.ReferenceIdeal.Recurrence.query (Z m c)))
        (Cert.ReferenceIdeal.Recurrence.heads (Cert.ReferenceIdeal.Recurrence.inputGate (lb m c) (Cert.ReferenceIdeal.Recurrence.forget (Z m c))))
        (Cert.ReferenceIdeal.Recurrence.heads (Cert.ReferenceIdeal.Recurrence.value (Z m c)))
        (Cert.ReferenceIdeal.Recurrence.sums (Cert.ReferenceIdeal.Recurrence.heads
          (Cert.ReferenceIdeal.Recurrence.logGate (lb m c) (Cert.ReferenceIdeal.Recurrence.forget (Z m c)))))
        (Cert.ReferenceIdeal.Recurrence.before (S m c)) (ix4 (seqOf i) (headOf t i) u d)) ⟨l.val % 128, by omega⟩
      * G m c (ix2 0 ⟨1024 * (group t).val + l.val, by omega⟩) *
      (Z m c (ix2 r ⟨6144 + (1024 * (group t).val + l.val), by omega⟩) * sigma (Z m c (ix2 r ⟨6144 + (1024 * (group t).val + l.val), by omega⟩))) := by
  unfold Cert.ReferenceIdeal.Recurrence.result
  rw [Cert.ReferenceIdeal.Recurrence.gated_apply, Cert.ReferenceIdeal.Recurrence.normed_apply, Cert.ReferenceIdeal.Recurrence.outGate_apply]
  have hs : (⟨r.val / 16, by omega⟩ : Fin 8) = seqOf i := Fin.ext (by simp only [seqOf]; omega)
  have ht : (⟨r.val % 16, by omega⟩ : Fin 16) = u := Fin.ext hu.symm
  have hh : (⟨(1024 * (group t).val + l.val) / 128, by omega⟩ : Fin 16) = headOf t i := Fin.ext (by simp only [headOf]; omega)
  have hd : (⟨(1024 * (group t).val + l.val) % 128, by omega⟩ : Fin 128) = ⟨l.val % 128, by omega⟩ := Fin.ext (by simp only; omega)
  have hr : (⟨r.val / 16 * 16 + r.val % 16, by omega⟩ : Fin 128) = r := Fin.ext (by simp only; omega)
  simp only [hs, ht, hh, hd, hr]
  have hb : ∀ (O : FVec Ideal Cert.ReferenceIdeal.S8x16x16x128 .f32) (s : Fin 8) (t h : Fin 16) (d : Fin 128),
      Cert.ReferenceIdeal.Recurrence.byTime O (ix4 s t h d) = O (ix4 s h t d) := fun O s t h d => by pointwise
  simp only [hb]

/-- What a block's body stores is the reference's first result at the cell it goes to. -/
theorem point_result (c : Dev nD) (t : Fin cfg0.N) (arg12 : Memref sig .tc .vmem S8x8x128x128 .f32) (arg9 : Memref sig .tc .vmem S8x8x128x128 .f32)
    (harg9 : arg9.IsWhole) (r : Fin 128) (l : Fin 1024) :
    k0_pay1 (unstack (normed (output (stack (iblk m c 0 t)) (stack (inputGate (iblk m c 4 t) (iblk m c 1 t))) (stack (iblk m c 2 t))
        (running (stack (logGate (iblk m c 4 t) (iblk m c 1 t)))) (start arg12 (kernelRun0_A.sl.HS0_64 c arg9 harg9 (iblk m c 6 t))))))
      (iblk m c 3 t) (iblk m c 5 t) (ix2 r l) =
    Cert.ReferenceIdeal.Recurrence.result (A m c) (Z m c) (G m c) (S m c) (ix2 r ⟨1024 * (group t).val + l.val, by omega⟩) := by
  rw [result_apply m c t r l ⟨l.val / 128 * 8 + r.val / 16, by omega⟩ ⟨r.val % 16, by omega⟩ rfl rfl, stored_apply, block_g, block_n,
    unstack_apply]
  have hr : (⟨128 * (l.val / 128) + r.val, by omega⟩ : Fin 1024) =
      row ⟨l.val / 128 * 8 + r.val / 16, by omega⟩ ⟨r.val % 16, by omega⟩ := Fin.ext (by simp only [row]; omega)
  rw [hr, normed_apply]
  simp only [point_output]
  rfl

/-- The whole state array is the reference's. -/
theorem final_state (c : Dev nD) : (dats m 0 c).arrAt 8 (cfgs 0).N =
    Cert.ReferenceIdeal.Recurrence.state (A m c) (Z m c) (S m c) := by
  refine (dats m 0 c).arrAt_eq_of_covers 8 _ (by decide +kernel) fun t _ y => ?_
  blk_simp
  rw [after0_8]
  unfold outsAt0 out0_A_8
  dsimp only
  rw [View.read_writes_junk_eq_canon, state_pieces]
  idx_vars y
  refine ((state_canon (fun i => finish (running (stack (logGate (iblk m c 4 t) (iblk m c 1 t))))
    (stack (inputGate (iblk m c 4 t) (iblk m c 1 t))) (stack (iblk m c 2 t))
    (start scM0_0 (kernelRun0_A.sl.HS0_64 c (ms0_6 t) (hs0_6 t) (iblk m c 6 t)) i) i) y0 y1 y2 y3).trans
      (point_state m c t scM0_0 (ms0_6 t) (hs0_6 t) _ y2 y3)).trans ?_
  refine Eq.trans ?_ (congrArg (Cert.ReferenceIdeal.Recurrence.state (A m c) (Z m c) (S m c)) (place_state t y0 y1 y2 y3).symm)
  refine congrArg _ (funext fun e => Fin.ext ?_)
  fin_cases e
  · show (y1.val * 8 + y0.val) % 8 = y0.val
    omega
  · show 8 * (group t).val + (y1.val * 8 + y0.val) / 8 = 8 * (group t).val + y1.val
    omega
  · rfl
  · rfl

/-- The whole output array is the reference's. -/
theorem final_output (c : Dev nD) : (dats m 0 c).arrAt 7 (cfgs 0).N =
    Cert.ReferenceIdeal.Recurrence.result (A m c) (Z m c) (G m c) (S m c) := by
  refine (dats m 0 c).arrAt_eq_of_covers 7 _ (by decide +kernel) fun t _ y => ?_
  blk_simp
  rw [after0_7]
  unfold outsAt0 out0_A_7
  dsimp only
  rw [View.read_writes_junk_eq_canon, output_pieces]
  idx_vars y
  refine Eq.trans ?_ ((point_result m c t scM0_0 (ms0_6 t) (hs0_6 t) y0 y1).trans
    (congrArg (Cert.ReferenceIdeal.Recurrence.result (A m c) (Z m c) (G m c) (S m c)) (place_output t y0 y1).symm))
  refine View.canon_apply_of_pieces (Val := Elt Ideal) (S := S128x1024) (e := .bf16) _ _ ?_ (ix2 y0 y1) ?_
  · intro q hq x
    obtain rfl := List.mem_singleton.mp hq
    clear hq
    dsimp only
    refine congrArg _ (funext fun e => Fin.ext ?_)
    fin_cases e
    · exact ((Nat.zero_add _).trans (Nat.one_mul _)).symm
    · exact ((Nat.zero_add _).trans (Nat.one_mul _)).symm
  · refine ⟨_, List.mem_singleton.mpr rfl, (Rect.mem_set_unit (inb := inb_S128x1024_S128x1024_0_0)).mpr fun e => ?_⟩
    fin_cases e
    · exact ⟨Nat.zero_le _, by show y0.val < 0 + 128; omega⟩
    · exact ⟨Nat.zero_le _, by show y1.val < 0 + 1024; omega⟩

end

end Cert.KernelIdeal.Recurrence

end
-- ==== Proof.GatedUp.lean ====
/- The feed-forward sub-layer up to its activation: a grid point writes one tile of
   `silu (x · W_gate) * (x · W_up)`, and the tiles fill the array. -/
module

public import proofs.«01_k».proof.Proof.Gen.Kernel2Ideal.Frame
public import proofs.«01_k».proof.Proof.Gen.Reference2Ideal.Run
public import proofs.«01_k».proof.Proof.Scalar
public import Idealize.ShloMosaic.Lib.Pipeline.ValueKit

@[expose] public section

set_option maxRecDepth 16384

noncomputable section

namespace Cert.Reference2Ideal.Tiles

open Cert.Reference2Ideal Cert.Reference2Ideal.Gen Idealize.ShloMosaic

/-- The product of the tokens with both halves of the input weights. -/
abbrev both (X : FVec Ideal S1x16384x4096 .f32) (W : FVec Ideal S1x4096x22016 .f32) :
    FVec Ideal S1x16384x22016 .f32 :=
  Host.dotGeneral dot_S1x16384x4096_S4096x22016_S1x16384x22016_2_0_01_1_n_n none X
    (shapeCast _ W shapeCasts_S1x4096x22016_S4096x22016)

/-- Its first half, the gate. -/
abbrev gate (X : FVec Ideal S1x16384x4096 .f32) (W : FVec Ideal S1x4096x22016 .f32) :
    FVec Ideal S1x16384x11008 .f32 :=
  extractStridedSlice S1x16384x11008 ![0, 0, 0] (both X W) slices_S1x16384x22016_S1x16384x11008_0_0_0

/-- The activation the reference computes. -/
abbrev act (X : FVec Ideal S1x16384x4096 .f32) (W : FVec Ideal S1x4096x22016 .f32) : FVec Ideal S16384x11008 .bf16 :=
  truncf .bf16 (shapeCast _ (mulf (mulf (gate X W)
    (Host.divf (broadcastInDim S1x16384x11008 ![] bcast_S_S1x16384x11008 (constant S_ .f32 0x3F800000#32))
      (addf (broadcastInDim S1x16384x11008 ![] bcast_S_S1x16384x11008 (constant S_ .f32 0x3F800000#32))
        (Host.exp (Host.negf (gate X W))))))
    (extractStridedSlice S1x16384x11008 ![0, 0, 11008] (both X W) slices_S1x16384x22016_S1x16384x11008_0_0_11008))
    shapeCasts_S1x16384x11008_S16384x11008) bitsLt_bf16_f32

end Cert.Reference2Ideal.Tiles

namespace Cert.Kernel2Ideal.Tiles

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at a grid point. -/
theorem idx : ∀ t : Fin cfg0.N, win0_0.index t = ![(grid0.coords t 0).val, 0] ∧ win0_1.index t = ![0, (grid0.coords t 1).val]
    ∧ win0_2.index t = ![0, (grid0.coords t 1).val + 43] ∧ win0_3.index t = ![(grid0.coords t 0).val, (grid0.coords t 1).val] :=
  (by decide +kernel : ∀ t : Fin grid0.N, _)

/-- What the body stores at a cell of its tile is the reference's activation at the cell of the array it goes to. -/
theorem point (c : Dev nD) (t : Fin cfg0.N) (y : S2048x256.Idx) :
    k0_pay1 (iblk m c 0 t) (iblk m c 1 t) (iblk m c 2 t) y
      = Cert.Reference2Ideal.Tiles.act (m ((c : Thread nD τ).loc main_arg0)) (m ((c : Thread nD τ).loc main_arg1))
          (((cfg0.win 3).blk t).view.emb y) := by
  pointwise [k0_pay1, Cert.Reference2Ideal.Tiles.act, Cert.Reference2Ideal.Tiles.gate, Cert.Reference2Ideal.Tiles.both]
  simp only [Cert.Scalar.ofBits_half, Cert.Scalar.half_add_tanh]
  blk_point [iblk, V, idx t]

/-- The whole output array is the reference's activation. -/
theorem final (c : Dev nD) : (dats m 0 c).arrAt 3 (cfgs 0).N
    = Cert.Reference2Ideal.Tiles.act (m ((c : Thread nD τ).loc main_arg0)) (m ((c : Thread nD τ).loc main_arg1)) := by
  refine (dats m 0 c).arrAt_eq_of_covers 3 _ (by decide +kernel) fun t _ y => ?_
  blk_simp
  rw [after0_3]
  frame_out
  exact point m c t y

end Cert.Kernel2Ideal.Tiles

end
-- ==== Proof.DownLnRun.lean ====
/- The second product of the feed-forward sub-layer with its residual and layer norm: what one grid point does to the
   block of rows it accumulates, and the run of the whole grid. -/
module

public import proofs.«01_k».proof.Proof.Gen.Kernel3Ideal.Frame
public import proofs.«01_k».proof.Proof.Gen.Kernel3Ideal.Loops
public import Idealize.ShloMosaic.Lib.Pipeline.ArrRel
public import Idealize.ShloMosaic.Lib.Pipeline.DatRel
public import Idealize.ShloMosaic.Lib.Pipeline.ValueKit
public import Idealize.ShloMosaic.Lib.WritesUnit

@[expose] public section

set_option maxRecDepth 16384

noncomputable section

namespace Cert.Kernel3Ideal.Rows

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄" => MT nD τ sig Unit (Elt F) ℕ (UR sig nD τ) ℕ

/-! ## Values -/

/-- The `k`-th band of 128 rows of the block the kernel accumulates. -/
abbrev band (k : Fin 4) : Rect S512x4096 :=
  Rect.unit (s := S512x4096) ![128 * k.val, 0] S128x4096.size (Fin.forall_fin_two.mpr ⟨by show 128 * k.val + 128 ≤ 512; omega, by show 0 + 4096 ≤ 4096; omega⟩)

/-- The band an element of the block lies in, -/
def bandOf (y : S512x4096.Idx) : Fin 4 := ⟨(y 0).val / 128, by have : (y 0).val < 512 := (y 0).isLt; omega⟩

/-- and its place in it. -/
def inBand (y : S512x4096.Idx) : S128x4096.Idx := fun a => ⟨![(y 0).val % 128, (y 1).val] a,
  Fin.forall_fin_two (p := fun a => ![(y 0).val % 128, (y 1).val] a < S128x4096.size a) |>.mpr
    ⟨by show (y 0).val % 128 < 128; omega, by show (y 1).val < 4096; exact (y 1).isLt⟩ a⟩

/-- The block after the layer norm of its rows. -/
def normed (g b : Vec F S1x4096 .f32) (X : Vec F S512x4096 .f32) : Vec F S512x4096 .f32 :=
  fun y => k0_pay2 g b (fun z => X ((band (bandOf y)).emb z)) (inBand y)

/-- The place of a cell of the block in the tile of 256 columns it lies in. -/
def inTile (y : S512x4096.Idx) : S512x256.Idx := fun a => ⟨![(y 0).val, (y 1).val % 256] a,
  Fin.forall_fin_two (p := fun a => ![(y 0).val, (y 1).val % 256] a < S512x256.size a) |>.mpr
    ⟨by show (y 0).val < 512; exact (y 0).isLt, by show (y 1).val % 256 < 256; omega⟩ a⟩

/-- The block with the `j`-th tile of 256 columns replaced. -/
def put (j : ℕ) (P : Vec F S512x256 .f32) (Y : Vec F S512x4096 .f32) : Vec F S512x4096 .f32 :=
  fun y => if (y 1).val / 256 = j then P (inTile y) else Y y

/-! ## The loop over the bands -/

/-- What one trip of the loop stores. -/
theorem trip_pieces (𝒱 : Variants) (c : Dev nD) (bd : Option 𝒱.V) (i : grid0.Coords) (arg2 : Memref sig .tc .vmem S512x11008 .bf16) (harg2 : arg2.IsWhole)
    (arg3 : Memref sig .tc .vmem S11008x256 .bf16) (harg3 : arg3.IsWhole) (arg4 : Memref sig .tc .vmem S512x256 .f32) (harg4 : arg4.IsWhole)
    (arg5 : Memref sig .tc .vmem S1x4096 .f32) (harg5 : arg5.IsWhole) (arg6 : Memref sig .tc .vmem S1x4096 .f32) (harg6 : arg6.IsWhole)
    (arg7 : Memref sig .tc .vmem S512x4096 .f32) (harg7 : arg7.IsWhole) (h : k0_cond1 i = 1#1) (g b : Vec F S1x4096 .f32)
    (k : Fin k0_t1_loop.trips) (f : BufTy.Contents (Elt F) arg7.view.ty) :
    tripL_k0_t1 (F := F) 𝒱 c bd i arg2 harg2 arg3 harg3 arg4 harg4 arg5 harg5 arg6 harg6 arg7 harg7 h g b k f
      = [⟨Rect.unit (s := S512x4096) (k0_off2 k) S128x4096.size (k0_off2_inb i k h),
          k0_pay2 g b (View.readAt (Elt F) arg7.view (Rect.unit (s := S512x4096) (k0_off2 k) S128x4096.size (k0_off2_inb i k h)).toLoadRect f)⟩] := by
  unfold tripL_k0_t1 trip_k0_t1
  rfl

/-- After `n` trips the first `n` bands are normalised and the others are as the loop found them. -/
theorem pieces_read (𝒱 : Variants) (c : Dev nD) (bd : Option 𝒱.V) (i : grid0.Coords) (arg2 : Memref sig .tc .vmem S512x11008 .bf16) (harg2 : arg2.IsWhole)
    (arg3 : Memref sig .tc .vmem S11008x256 .bf16) (harg3 : arg3.IsWhole) (arg4 : Memref sig .tc .vmem S512x256 .f32) (harg4 : arg4.IsWhole)
    (arg5 : Memref sig .tc .vmem S1x4096 .f32) (harg5 : arg5.IsWhole) (arg6 : Memref sig .tc .vmem S1x4096 .f32) (harg6 : arg6.IsWhole)
    (arg7 : Memref sig .tc .vmem S512x4096 .f32) (harg7 : arg7.IsWhole) (h : k0_cond1 i = 1#1) (g b : Vec F S1x4096 .f32)
    (f : BufTy.Contents (Elt F) arg7.view.ty) (n : ℕ) (hn : n ≤ k0_t1_loop.trips) (y : S512x4096.Idx) :
    arg7.view.read (Elt F) (arg7.view.writes (Elt F) f (pb_k0_t1 (F := F) 𝒱 c bd i arg2 harg2 arg3 harg3 arg4 harg4 arg5 harg5 arg6 harg6 arg7 harg7 h g b f n)) y
      = if (y 0).val < 128 * n then normed g b (arg7.view.read (Elt F) f) y else arg7.view.read (Elt F) f y := by
  induction n generalizing y with
  | zero => rw [if_neg (by omega)]; rfl
  | succ n ih =>
    have hk : n < 4 := Nat.lt_of_lt_of_le hn k0_t1_abs.2.1
    have e := pb_k0_t1_succ (F := F) 𝒱 c bd i arg2 harg2 arg3 harg3 arg4 harg4 arg5 harg5 arg6 harg6 arg7 harg7 h g b f ⟨n, hn⟩
    rw [show n + 1 = (⟨n, hn⟩ : Fin k0_t1_loop.trips).val + 1 from rfl, e, trip_pieces, List.singleton_append]
    by_cases hy : 128 * n ≤ (y 0).val ∧ (y 0).val < 128 * n + 128
    · have hb : bandOf y = ⟨n, hk⟩ := Fin.ext (by show (y 0).val / 128 = n; omega)
      rw [if_pos (by show (y 0).val < 128 * (n + 1); omega)]
      refine (View.read_writes_cons_unit_of_mem arg7.view f _ _ _ y (inBand y) (k0_off2_eq ⟨n, hn⟩)
        (Fin.forall_fin_two.mpr ⟨?_, ?_⟩)).trans ?_
      · show (y 0).val = 128 * n + (y 0).val % 128; omega
      · show (y 1).val = 0 + (y 1).val; omega
      · unfold normed
        rw [hb]
        congr 1
        funext z
        rw [View.readAt_apply]
        have hz : (Rect.unit (s := S512x4096) (k0_off2 ⟨n, hn⟩) S128x4096.size (k0_off2_inb i ⟨n, hn⟩ h)).toLoadRect.idx z = (band ⟨n, hk⟩).emb z := by
          refine funext (Fin.forall_fin_two.mpr ⟨Fin.ext ?_, Fin.ext ?_⟩)
          · show k0_off2 ⟨n, hn⟩ 0 + 1 * (z 0).val = 128 * n + 1 * (z 0).val; exact congrArg (· + 1 * (z 0).val) (congrFun (k0_off2_eq ⟨n, hn⟩) 0)
          · show k0_off2 ⟨n, hn⟩ 1 + 1 * (z 1).val = 0 + 1 * (z 1).val; exact congrArg (· + 1 * (z 1).val) (congrFun (k0_off2_eq ⟨n, hn⟩) 1)
        refine (congrArg _ hz).trans ?_
        rw [ih (Nat.le_of_lt hn), if_neg (by show ¬ 128 * n + 1 * (z 0).val < 128 * n; omega)]
    · refine (View.read_writes_cons_unit_of_not_mem arg7.view f _ _ _ y (k0_off2_eq ⟨n, hn⟩) 0 ?_).trans ?_
      · show (y 0).val < 128 * n ∨ 128 * n + 128 ≤ (y 0).val; omega
      · rw [ih (Nat.le_of_lt hn)]
        by_cases h' : (y 0).val < 128 * n
        · rw [if_pos h', if_pos (by show (y 0).val < 128 * (n + 1); omega)]
        · rw [if_neg h', if_neg (by show ¬ (y 0).val < 128 * (n + 1); omega)]

/-- After the loop every band is normalised. -/
theorem loop_read (𝒱 : Variants) (c : Dev nD) (bd : Option 𝒱.V) (i : grid0.Coords) (arg2 : Memref sig .tc .vmem S512x11008 .bf16) (harg2 : arg2.IsWhole)
    (arg3 : Memref sig .tc .vmem S11008x256 .bf16) (harg3 : arg3.IsWhole) (arg4 : Memref sig .tc .vmem S512x256 .f32) (harg4 : arg4.IsWhole)
    (arg5 : Memref sig .tc .vmem S1x4096 .f32) (harg5 : arg5.IsWhole) (arg6 : Memref sig .tc .vmem S1x4096 .f32) (harg6 : arg6.IsWhole)
    (arg7 : Memref sig .tc .vmem S512x4096 .f32) (harg7 : arg7.IsWhole) (h : k0_cond1 i = 1#1) (g b : Vec F S1x4096 .f32)
    (f : BufTy.Contents (Elt F) arg7.view.ty) :
    arg7.view.read (Elt F) (arg7.view.writes (Elt F) f (pb_k0_t1 (F := F) 𝒱 c bd i arg2 harg2 arg3 harg3 arg4 harg4 arg5 harg5 arg6 harg6 arg7 harg7 h g b f k0_t1_loop.trips))
      = normed g b (arg7.view.read (Elt F) f) := by
  funext y
  have ht : k0_t1_loop.trips = 4 := by decide +kernel
  rw [pieces_read 𝒱 c bd i arg2 harg2 arg3 harg3 arg4 harg4 arg5 harg5 arg6 harg6 arg7 harg7 h g b f _ (le_refl _) y, if_pos]
  have : (y 0).val < 512 := (y 0).isLt
  omega

/-- A store of one tile. -/
theorem tile_read (i : grid0.Coords) (v : View sig .tc .vmem S512x4096 .f32) (f : v.ty.Contents (Elt F)) (P : Vec F S512x256 .f32) :
    v.read (Elt F) (v.writes (Elt F) f [⟨Rect.unit (s := S512x4096) (k0_off1 i) S512x256.size (k0_off1_inb i), P⟩])
      = put (i 1).val P (v.read (Elt F) f) := by
  funext y
  unfold put
  by_cases hy : (y 1).val / 256 = (i 1).val
  · rw [if_pos hy]
    refine View.read_writes_cons_unit_of_mem v f _ _ _ y (inTile y) (k0_off1_eq i) (Fin.forall_fin_two.mpr ⟨?_, ?_⟩)
    · show (y 0).val = 0 + (y 0).val; omega
    · show (y 1).val = 256 * (i 1).val + (y 1).val % 256; omega
  · rw [if_neg hy]
    refine (View.read_writes_cons_unit_of_not_mem v f _ _ _ y (k0_off1_eq i) 1 ?_).trans rfl
    show (y 1).val < 256 * (i 1).val ∨ 256 * (i 1).val + 256 ≤ (y 1).val; omega

/-- A load of a whole buffer. -/
theorem whole_read {sp : Space} {s : Shape} {e : EltTy} (v : View sig .tc sp s e) (f : v.ty.Contents (Elt F)) {off : Fin s.rank → ℕ}
    (inb : ∀ a, off a + s.size a ≤ s.size a) (h0 : ∀ a, off a = 0) :
    View.readAt (Elt F) v (Rect.unit (s := s) off s.size inb).toLoadRect f = v.read (Elt F) f :=
  funext fun z => congrArg (v.read (Elt F) f) (funext fun a => Fin.ext (by
    show off a + 1 * (z a).val = (z a).val
    rw [h0]; omega))

theorem zero2 : ∀ a : Fin 2, (![0, 0] : Fin 2 → ℕ) a = 0 := by decide

/-! ## The body -/

/-- What the body leaves in the block it accumulates. -/
def stepped (i : grid0.Coords) (A : Vec F S512x11008 .bf16) (W : Vec F S11008x256 .bf16) (X : Vec F S512x256 .f32)
    (g b : Vec F S1x4096 .f32) (Y : Vec F S512x4096 .f32) : Vec F S512x4096 .f32 :=
  if k0_cond1 i = 1#1 then normed g b (put (i 1).val (k0_pay1 X A W) Y) else put (i 1).val (k0_pay1 X A W) Y

set_option maxHeartbeats 1000000 in
/-- The body on whole staging buffers: the five inputs are handed back as they were, the block at `stepped` of them. -/
theorem sound_kernel (c : Dev nD) (E : Set ℕ) (i : grid0.Coords) (arg2 : Memref sig .tc .vmem S512x11008 .bf16) (harg2 : arg2.IsWhole)
    (arg3 : Memref sig .tc .vmem S11008x256 .bf16) (harg3 : arg3.IsWhole) (arg4 : Memref sig .tc .vmem S512x256 .f32) (harg4 : arg4.IsWhole)
    (arg5 : Memref sig .tc .vmem S1x4096 .f32) (harg5 : arg5.IsWhole) (arg6 : Memref sig .tc .vmem S1x4096 .f32) (harg6 : arg6.IsWhole)
    (arg7 : Memref sig .tc .vmem S512x4096 .f32) (harg7 : arg7.IsWhole)
    (A : Vec F S512x11008 .bf16) (W : Vec F S11008x256 .bf16) (X : Vec F S512x256 .f32) (g b : Vec F S1x4096 .f32)
    (Y : Vec F S512x4096 .f32) (K : PUnit → sProp 𝕄) :
    iprop(owns (c : Thread nD τ) arg2 fullShare A ∗ owns (c : Thread nD τ) arg3 fullShare W ∗ owns (c : Thread nD τ) arg4 fullShare X
        ∗ owns (c : Thread nD τ) arg5 fullShare g ∗ owns (c : Thread nD τ) arg6 fullShare b ∗ owns (c : Thread nD τ) arg7 fullShare Y
        ∗ (iprop(owns (c : Thread nD τ) arg2 fullShare A ∗ owns (c : Thread nD τ) arg3 fullShare W ∗ owns (c : Thread nD τ) arg4 fullShare X
          ∗ owns (c : Thread nD τ) arg5 fullShare g ∗ owns (c : Thread nD τ) arg6 fullShare b
          ∗ owns (c : Thread nD τ) arg7 fullShare (stepped i A W X g b Y)) -∗ K ⟨⟩))
      ⊢ wp frame (wpE (defs₀ (F := F)) Variants.none c none) E
          (cc0_down_ln i arg2 harg2 arg3 harg3 arg4 harg4 arg5 harg5 arg6 harg6 arg7 harg7) K := by
  simp only [cc0_down_ln_eq_skeleton]; unfold cc0_down_ln_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2 hf3 hf4 hf5 hf6 hf7
  by_cases h : k0_cond1 i = 1#1
  · sl_exec
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists _; isplitr
    swap; · iexact H7
    ipureintro
    unfold stepped
    rw [if_pos h, View.writes_append]
    refine (loop_read _ _ _ _ _ _ _ _ _ _ _ _ _ _ _ _ _ _ _ _).trans ?_
    rw [tile_read, whole_read _ _ _ zero2, whole_read _ _ _ zero2, whole_read _ _ _ zero2, whole_read _ _ _ zero2, whole_read _ _ _ zero2]
  · sl_exec
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists _; isplitr
    swap; · iexact H7
    ipureintro
    unfold stepped
    rw [if_neg h, tile_read, whole_read _ _ _ zero2, whole_read _ _ _ zero2, whole_read _ _ _ zero2]

/-! ## What the block holds point by point -/

variable (m : (ℓ : Loc nD τ sig) → Buf (Elt F) ℓ) (ρ : Dev nD → PrngReg)

/-- The grid point of the row block of `t` that computes the tile of a cell. -/
def maker (t : Fin cfg0.N) (y : S512x4096.Idx) : Fin cfg0.N := ⟨16 * (t.val / 16) + (y 1).val / 256, by
  have h0 : t.val < 512 := t.isLt
  have h1 : (y 1).val < 4096 := (y 1).isLt
  show _ < 512
  omega⟩

/-- The row block of `t` before the layer norm. -/
def acc (c : Dev nD) (t : Fin cfg0.N) : Vec F S512x4096 .f32 := fun y =>
  k0_pay1 (iblk m c 2 (maker t y)) (iblk m c 0 (maker t y)) (iblk m c 1 (maker t y)) (inTile y)

/-- What holds of the block after point `t`: its first tiles are in place; after the last tile, all is normalised. -/
def Filled (c : Dev nD) (t : Fin cfg0.N) (X : Vec F S512x4096 .f32) : Prop :=
  if t.val % 16 = 15 then X = normed (iblk m c 3 t) (iblk m c 4 t) (acc m c t)
  else ∀ y : S512x4096.Idx, (y 1).val / 256 ≤ t.val % 16 → X y = acc m c t y

theorem coord_eq : ∀ t : Fin cfg0.N, (grid0.coords t 1).val = t.val % 16 ∧ (k0_cond1 (grid0.coords t) = 1#1 ↔ t.val % 16 = 15) :=
  (by decide +kernel : ∀ t : Fin grid0.N, _)

/-- With the next tile in place, one tile more holds. -/
theorem put_acc (c : Dev nD) (t : Fin cfg0.N) (Y : Vec F S512x4096 .f32)
    (hY : ∀ y : S512x4096.Idx, (y 1).val / 256 < t.val % 16 → Y y = acc m c t y)
    (y : S512x4096.Idx) (hy : (y 1).val / 256 ≤ t.val % 16) :
    put (grid0.coords t 1).val (k0_pay1 (iblk m c 2 t) (iblk m c 0 t) (iblk m c 1 t)) Y y = acc m c t y := by
  unfold put
  rw [(coord_eq t).1]
  by_cases h : (y 1).val / 256 = t.val % 16
  · have hm : maker t y = t := Fin.ext (by show 16 * (t.val / 16) + (y 1).val / 256 = t.val; omega)
    rw [if_pos h]
    unfold acc
    rw [hm]
  · rw [if_neg h]
    exact hY y (by omega)

/-- The body keeps `Filled` going. -/
theorem filled_step (c : Dev nD) (t : Fin cfg0.N) (Y : Vec F S512x4096 .f32)
    (hY : ∀ y : S512x4096.Idx, (y 1).val / 256 < t.val % 16 → Y y = acc m c t y) :
    Filled m c t (stepped (grid0.coords t) (iblk m c 0 t) (iblk m c 1 t) (iblk m c 2 t) (iblk m c 3 t) (iblk m c 4 t) Y) := by
  unfold Filled stepped
  by_cases h : t.val % 16 = 15
  · rw [if_pos h, if_pos ((coord_eq t).2.mpr h)]
    congr 1
    funext y
    have h1 : (y 1).val < 4096 := (y 1).isLt
    exact put_acc m c t Y hY y (by omega)
  · rw [if_neg h, if_neg fun e => h ((coord_eq t).2.mp e)]
    exact put_acc m c t Y hY

/-- What was there after the point before is what the body needs to find. -/
theorem filled_prev (c : Dev nD) (t t' : Fin cfg0.N) (ht : t.val = t'.val + 1) (h0 : t'.val % 16 ≠ 15) (Y : Vec F S512x4096 .f32)
    (hY : Filled m c t' Y) (y : S512x4096.Idx) (hy : (y 1).val / 256 < t.val % 16) : Y y = acc m c t y := by
  unfold Filled at hY
  rw [if_neg h0] at hY
  rw [hY y (by omega)]
  have hm : maker t' y = maker t y := Fin.ext (by
    show 16 * (t'.val / 16) + (y 1).val / 256 = 16 * (t.val / 16) + (y 1).val / 256; omega)
  unfold acc
  rw [hm]

/-! ## The proof data -/

/-- The arrays as the region finds them; the body hands every input back as it found it; the output is held to `Filled`. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => normed (iblk m c 3 t) (iblk m c 4 t) (acc m c t)
  Φ _ := Pipeline.ΦA spec0 c
  q _ := fullShare
  owed _ := 0

/-- The output is the one window whose contents are not named. -/
def held : Fin 6 → Bool := ![false, false, false, false, false, true]

/-- What the output is held to. -/
def Rl (c : Dev nD) : (w : Fin cfg0.W) → Fin cfg0.N → ((cfg0.win w).block.Idx → Elt F (cfg0.win w).elt) → Prop
  | ⟨0, _⟩, _, _ => True
  | ⟨1, _⟩, _, _ => True
  | ⟨2, _⟩, _, _ => True
  | ⟨3, _⟩, _, _ => True
  | ⟨4, _⟩, _, _ => True
  | ⟨5, _⟩, t, X => Filled m c t X

theorem A_eq (c : Dev nD) (w : Fin cfg0.W) : (dat m c).A w = V m c (Pipeline.arrRef spec0 w) := by dsimp only [dat]
theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]
theorem after0_2 (c : Dev nD) (t : Fin cfg0.N) : (dat m c).after 2 t = iblk m c 2 t := by dsimp only [dat]
theorem after0_3 (c : Dev nD) (t : Fin cfg0.N) : (dat m c).after 3 t = iblk m c 3 t := by dsimp only [dat]
theorem after0_4 (c : Dev nD) (t : Fin cfg0.N) : (dat m c).after 4 t = iblk m c 4 t := by dsimp only [dat]
theorem before0_0 (c : Dev nD) (t : Fin cfg0.N) (d) : (dat m c).before 0 t d = iblk m c 0 t :=
  before0_0_of m (dat m c) (A_eq m c 0) (after0_0 m c) t d
theorem before0_1 (c : Dev nD) (t : Fin cfg0.N) (d) : (dat m c).before 1 t d = iblk m c 1 t :=
  before0_1_of m (dat m c) (A_eq m c 1) (after0_1 m c) t d
theorem before0_2 (c : Dev nD) (t : Fin cfg0.N) (d) : (dat m c).before 2 t d = iblk m c 2 t :=
  before0_2_of m (dat m c) (A_eq m c 2) (after0_2 m c) t d
theorem before0_3 (c : Dev nD) (t : Fin cfg0.N) (d) : (dat m c).before 3 t d = iblk m c 3 t :=
  before0_3_of m (dat m c) (A_eq m c 3) (after0_3 m c) t d
theorem before0_4 (c : Dev nD) (t : Fin cfg0.N) (d) : (dat m c).before 4 t d = iblk m c 4 t :=
  before0_4_of m (dat m c) (A_eq m c 4) (after0_4 m c) t d

/-- The relational data of the run. -/
abbrev rdat (c : Dev nD) : RDat τ (Elt F) Unit ℕ (UR sig nD τ) ℕ cfg0 c := (dat m c).toRRel held (Rl m c)

/-- The output is never fetched. -/
theorem fetch0_5 (t : Fin cfg0.N) : (cfg0.win 5).fetch t = false := rfl

/-- What the body may find in the block: the tiles of the row block computed so far. -/
theorem found (c : Dev nD) (t : Fin cfg0.N) (Y : Vec F S512x4096 .f32) (hY : (rdat m c).Finds 5 t Y) (y : S512x4096.Idx)
    (hy : (y 1).val / 256 < t.val % 16) : Y y = acc m c t y := by
  have ht : t.val ≠ 0 := by intro h; rw [h] at hy; omega
  rcases ((rdat m c).finds_of_pos (fetch0_5 t) ht Y).mp hY with h | h
  · have := (flush0_5 _).mp h
    simp only at this
    omega
  · have h' : t.val - 1 < cfg0.N := Nat.lt_of_le_of_lt (Nat.sub_le _ _) t.isLt
    exact filled_prev m c t ⟨t.val - 1, h'⟩ (by show t.val = t.val - 1 + 1; omega) (by show (t.val - 1) % 16 ≠ 15; omega) Y
      ((dat m c).toRRel_leaves (fgt := held) (Rl := Rl m c) (w := 5) rfl h) y hy

/-! ## The body obligation -/

/-- What the body is called with at a point, -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ Y, ⌜(rdat m c).Finds 5 t Y⌝ ∗ owns (c : Thread nD τ) (st0_5 t) fullShare Y))

/-- and what it returns. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ (∃ X, ⌜Rl m c 5 t X⌝ ∗ owns (c : Thread nD τ) (st0_5 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dat m c).Φ t.succ = (dat m c).Φ t.castSucc from rfl,
    show (dat m c).owesAt () t.succ = (dat m c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%Y, %hY, H5⟩⟩
  iapply (sound_kernel c Set.univ (grid0.coords t) _ _ _ _ _ _ _ _ _ _ _ _ (iblk m c 0 t) (iblk m c 1 t) (iblk m c 2 t) (iblk m c 3 t) (iblk m c 4 t) Y _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexists _; isplitr
  swap; · iexact H5
  ipureintro
  exact filled_step m c t Y (found m c t Y hY)

/-- The body table's row at the point's staging buffers. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ :=
  Pipeline.BodyObligationRel.toRRel (dat m c) (fgt := held) (Rl := Rl m c) fun t => by
    rw [bigSep_W0, bigSep_W0, defs₀_row]
    exact triple_restated (sound_body m c t) rfl .rfl fun _ => .rfl

/-! ## The run -/

set_option backward.isDefEq.respectTransparency.types false in
set_option maxHeartbeats 800000 in
/-- The run: every array ends as the relational data allow, every other buffer as it was, every counter at zero. -/
theorem run_main_quiescent : θ_run defs (onTc (τ := τ) (main (F := F))) (s₀ m ρ)
    (fun r => RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun c w => A_eq m c w) (hΦ := fun _ _ => rfl)

/-- The argument arrays end unchanged. -/
theorem unchanged_of {r : PUnit × MemSt nD τ sig (Elt F)} (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (h.arr_in c 2 rfl).trans ((A_eq m c 2).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame: the argument arrays unchanged, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨unchanged_of m h.1, h.2⟩) (run_main_quiescent m ρ)

end Cert.Kernel3Ideal.Rows

end
-- ==== Proof.DownLn.lean ====
/- The second product of the feed-forward sub-layer with its residual and layer norm: the kernel's tiles accumulated over a
   block of rows, normalised, are the reference's array. -/
module

public import proofs.«01_k».proof.Proof.DownLnRun
public import proofs.«01_k».proof.Proof.Gen.Reference3Ideal.Run

@[expose] public section

set_option maxRecDepth 16384

noncomputable section

namespace Cert.Reference3Ideal.Rows

open Cert.Reference3Ideal Cert.Reference3Ideal.Gen Idealize.ShloMosaic

/-- The residual scaled, plus half the product with the output weights. -/
abbrev pre (A : FVec Ideal S16384x11008 .f32) (W : FVec Ideal S1x11008x4096 .f32) (X : FVec Ideal S16384x4096 .f32) :
    FVec Ideal S16384x4096 .f32 :=
  addf (mulf (broadcastInDim S16384x4096 ![] bcast_S_S16384x4096 (constant S_ .f32 0x3F9837F0#32)) X)
    (mulf (broadcastInDim S16384x4096 ![] bcast_S_S16384x4096 (constant S_ .f32 0x3F000000#32))
      (Host.dotGeneral dot_S16384x11008_S11008x4096_S16384x4096_1_0_0_1_n_n none A
        (shapeCast _ W shapeCasts_S1x11008x4096_S11008x4096)))

/-- The rows less their mean. -/
abbrev centred (P : FVec Ideal S16384x4096 .f32) : FVec Ideal S16384x4096 .f32 :=
  subf P (broadcastInDim S16384x4096 ![0, 1] bcast_S16384x1_S16384x4096_0_1
    (Host.divf (broadcastInDim S16384x1 ![0] bcast_S16384_S16384x1_0
        (Host.reduceAdd P (constant S_ .f32 0x00000000#32) reducesTo_S16384x4096_S16384_d1 h_S_))
      (broadcastInDim S16384x1 ![] bcast_S_S16384x1 (constant S_ .f32 0x45800000#32))))

/-- The reference's layer norm of the rows. -/
abbrev norm (P : FVec Ideal S16384x4096 .f32) (G B : FVec Ideal S1x4096 .f32) : FVec Ideal S16384x4096 .f32 :=
  addf (mulf (mulf (centred P)
      (broadcastInDim S16384x4096 ![0, 1] bcast_S16384x1_S16384x4096_0_1
        (Host.rsqrt (addf (Host.divf (broadcastInDim S16384x1 ![0] bcast_S16384_S16384x1_0
            (Host.reduceAdd (mulf (centred P) (centred P)) (constant S_ .f32 0x00000000#32) reducesTo_S16384x4096_S16384_d1 h_S_))
          (broadcastInDim S16384x1 ![] bcast_S_S16384x1 (constant S_ .f32 0x45800000#32)))
          (broadcastInDim S16384x1 ![] bcast_S_S16384x1 (constant S_ .f32 0x3727C5AC#32))))))
      (broadcastInDim S16384x4096 ![0, 1] bcast_S1x4096_S16384x4096_0_1
        (broadcastInDim S1x4096 ![1] bcast_S4096_S1x4096_1 (shapeCast _ G shapeCasts_S1x4096_S4096))))
    (broadcastInDim S16384x4096 ![0, 1] bcast_S1x4096_S16384x4096_0_1
      (broadcastInDim S1x4096 ![1] bcast_S4096_S1x4096_1 (shapeCast _ B shapeCasts_S1x4096_S4096)))

/-- The reference's result, in these words. -/
theorem result_word (m : (ℓ : Loc nD τ sig) → Buf (Elt Ideal) ℓ) (c : Dev nD) :
    Cert.Reference3Ideal.Value.res_main_v32 m c
      = norm (pre (m (c.tc.loc main_arg0)) (m (c.tc.loc main_arg1)) (m (c.tc.loc main_arg2)))
          (m (c.tc.loc main_arg3)) (m (c.tc.loc main_arg4)) := by
  unfold Cert.Reference3Ideal.Value.res_main_v32
  rfl

end Cert.Reference3Ideal.Rows

namespace Cert.Kernel3Ideal.Rows

open Cert.Kernel3Ideal Cert.Kernel3Ideal.Gen Idealize.ShloMosaic Idealize.ShloMosaic.TcCoe Idealize.SL.Sem
open Idealize.ShloMosaic.Pipeline (Dat RDat)

variable (m : (ℓ : Loc nD τ sig) → Buf (Elt Ideal) ℓ)

/-- Where each window's block lies at a grid point. -/
theorem idx : ∀ t : Fin cfg0.N, win0_0.index t = ![t.val / 16, 0] ∧ win0_1.index t = ![0, t.val % 16]
    ∧ win0_2.index t = ![t.val / 16, t.val % 16] ∧ win0_3.index t = ![0, 0] ∧ win0_4.index t = ![0, 0]
    ∧ win0_5.index t = ![t.val / 16, 0] :=
  (by decide +kernel : ∀ t : Fin grid0.N, _)

/-- The accumulated tiles are the reference's array before the layer norm. -/
theorem acc_point (c : Dev nD) (t : Fin cfg0.N) (y : S512x4096.Idx) :
    acc m c t y = Cert.Reference3Ideal.Rows.pre (m ((c : Thread nD τ).loc main_arg0)) (m ((c : Thread nD τ).loc main_arg1))
      (m ((c : Thread nD τ).loc main_arg2)) (((cfg0.win 5).blk t).view.emb y) := by
  unfold acc
  pointwise [k0_pay1, Cert.Reference3Ideal.Rows.pre]
  blk_point [iblk, V, idx (maker t y)]
  all_goals
    have e0 : win0_5.index t 0 = t.val / 16 := by rw [(idx t).2.2.2.2.2]; rfl
    have e1 : win0_5.index t 1 = 0 := by rw [(idx t).2.2.2.2.2]; rfl
    have em : (maker t y).val = 16 * (t.val / 16) + (y 1).val / 256 := rfl
    have i0 : (inTile y 0).val = (y 0).val := rfl
    have i1 : (inTile y 1).val = (y 1).val % 256 := rfl
    omega

/-- The layer norm of a block of rows is the block of the layer norm. -/
theorem norm_point (c : Dev nD) (t : Fin cfg0.N) (P : FVec Ideal S16384x4096 .f32) (y : S512x4096.Idx) :
    normed (iblk m c 3 t) (iblk m c 4 t) (fun z : S512x4096.Idx => P (((cfg0.win 5).blk t).view.emb z)) y
      = Cert.Reference3Ideal.Rows.norm P (m ((c : Thread nD τ).loc main_arg3)) (m ((c : Thread nD τ).loc main_arg4))
          (((cfg0.win 5).blk t).view.emb y) := by
  unfold normed
  pointwise [k0_pay2, Cert.Reference3Ideal.Rows.norm, Cert.Reference3Ideal.Rows.centred]
  blk_point [iblk, V, idx t]
  all_goals
    have eb : (bandOf y).val = (y 0).val / 128 := rfl
    have i0 : (inBand y 0).val = (y 0).val % 128 := rfl
    have i1 : (inBand y 1).val = (y 1).val := rfl
    omega

/-- What the output array may hold at the end is the reference's array. -/
theorem final (c : Dev nD) (G : Buf (Elt Ideal) ((cfg0.win 5).arr.view.loc (c.tc : Thread nD τ))) (hG : (rdat m c).ArrAt 5 cfg0.N G) :
    G = Cert.Reference3Ideal.Rows.norm (Cert.Reference3Ideal.Rows.pre (m ((c : Thread nD τ).loc main_arg0))
        (m ((c : Thread nD τ).loc main_arg1)) (m ((c : Thread nD τ).loc main_arg2)))
      (m ((c : Thread nD τ).loc main_arg3)) (m ((c : Thread nD τ).loc main_arg4)) := by
  obtain ⟨X, hX, hA⟩ := hG.exists_exact
  have hX' : ∀ t : Fin cfg0.N, (cfg0.win 5).flush t = true → X t = normed (iblk m c 3 t) (iblk m c 4 t) (acc m c t) := fun t ht => by
    have h : Filled m c t (X t) := (dat m c).toRRel_leaves (fgt := held) (Rl := Rl m c) (w := 5) rfl (hX t t.isLt ht)
    unfold Filled at h
    rwa [if_pos ((flush0_5 t).mp ht)] at h
  rw [hA (dat m c).after fun t _ ht => (hX' t ht).symm ▸ rfl]
  refine ((rdat m c).withAfter (dat m c).after).arrAt_eq_of_covers 5 _ (by decide +kernel) fun t _ y => ?_
  have e : acc m c t = fun z : S512x4096.Idx => Cert.Reference3Ideal.Rows.pre (m ((c : Thread nD τ).loc main_arg0))
      (m ((c : Thread nD τ).loc main_arg1)) (m ((c : Thread nD τ).loc main_arg2)) (((cfg0.win 5).blk t).view.emb z) :=
    funext (acc_point m c t)
  refine Eq.trans (b := normed (iblk m c 3 t) (iblk m c 4 t) (acc m c t) y) rfl ?_
  rw [e]
  exact norm_point m c t _ y

end Cert.Kernel3Ideal.Rows

end
-- ==== Proof.DownLnFrame.lean ====
/- The second product with its layer norm, its program and its idealization: they have the same text, so that the
   idealization's run, over any float values, is the program's. -/
module

public import proofs.«01_k».proof.Proof.DownLnRun
public import proofs.«01_k».proof.Proof.Gen.Kernel3
public import proofs.«01_k».proof.Defs

@[expose] public section

set_option maxRecDepth 16384

noncomputable section

namespace Cert.Kernel3.Rows

open Cert.Kernel3 Idealize.ShloMosaic Idealize.SL.Sem

variable {F : FTy → Type} [FloatOps F]

/-- The two programs' tables of kernel functions are one. -/
theorem bodies_eq : (fun p => Cert.Kernel3.defs₀ (F := F) p) = fun p => Cert.Kernel3Ideal.defs₀ (F := F) p := by
  unfold Cert.Kernel3.defs₀ Cert.Kernel3Ideal.defs₀
  refine congrArg (fun f p => Defs.onTc f p) (funext fun ℓ => funext fun a => ?_)
  match ℓ, a with
  | 0, (t, s) => rfl
  | ⟨_ + 1, h⟩, _ => exact absurd h (Nat.not_lt.2 (Nat.le_add_left _ _))

/-- So are the tables with the pipelines around them. -/
theorem defs_eq : (fun p => Cert.Kernel3.defs (F := F) p) = fun p => Cert.Kernel3Ideal.defs (F := F) p := by
  unfold Cert.Kernel3.defs Cert.Kernel3Ideal.defs
  exact congrArg (fun f p => Pipeline.defs Cert.Kernel3Ideal.pcfgs f p) bodies_eq

/-- The program's frame, from the idealization's run over its own float values. -/
theorem frame : Cert.quiescent_Kernel3 := fun m g _ => by
  have h : ∀ D : Defs nD τ sig (Elt Bits) (Pipeline.Sig Λ₀ (Fin 1) fun p => (pcfgs (F := Bits) p).Adm),
      (fun p => D p) = (fun p => Cert.Kernel3Ideal.defs (F := Bits) p) →
      θ_run D (onTc (τ := τ) (Cert.Kernel3Ideal.main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.sem = fun _ => 0) := fun D hD => by
    obtain rfl : D = _ := hD
    exact Cert.Kernel3Ideal.Rows.frame_main (F := Bits) m g
  exact h _ defs_eq

end Cert.Kernel3.Rows

end
-- ==== Proof.Projection.lean ====
/- The combined input projection: a grid point writes one tile of `h · W`. -/
module

public import proofs.«01_k».proof.Proof.Gen.Kernel4Ideal.Frame
public import proofs.«01_k».proof.Proof.Gen.Reference4Ideal.Run
public import proofs.«01_k».proof.Proof.Scalar
public import Idealize.ShloMosaic.Lib.Pipeline.ValueKit

@[expose] public section

set_option maxRecDepth 16384

noncomputable section

namespace Cert.Reference4Ideal.Tiles

open Cert.Reference4Ideal Cert.Reference4Ideal.Gen Idealize.ShloMosaic

/-- The columns of the product the reference keeps. -/
abbrev proj (H : FVec Ideal S16384x4096 .f32) (W : FVec Ideal S1x4096x23264 .f32) : FVec Ideal S16384x15360 .f32 :=
  extractStridedSlice S16384x15360 ![0, 0]
    (Host.dotGeneral dot_S16384x4096_S4096x23264_S16384x23264_1_0_0_1_n_n none H
      (shapeCast _ W shapeCasts_S1x4096x23264_S4096x23264)) slices_S16384x23264_S16384x15360_0_0

/-- The last row of the product, at the columns the RWKV-7 branch shifts. -/
abbrev shift (H : FVec Ideal S16384x4096 .f32) (W : FVec Ideal S1x4096x23264 .f32) : FVec Ideal S1x1x6880 .f32 :=
  extractStridedSlice S1x1x6880 ![0, 16383, 8192]
    (shapeCast _ (Host.dotGeneral dot_S16384x4096_S4096x23264_S16384x23264_1_0_0_1_n_n none H
      (shapeCast _ W shapeCasts_S1x4096x23264_S4096x23264)) shapeCasts_S16384x23264_S1x16384x23264)
    slices_S1x16384x23264_S1x1x6880_0_16383_8192

end Cert.Reference4Ideal.Tiles

namespace Cert.Kernel4Ideal.Tiles

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at a grid point. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The weights, in the kernel's word for them. -/
def wordsOf (W : FVec Ideal S1x4096x23264 .f32) : FVec Ideal S4096x23264 .bf16 :=
  truncf .bf16 (shapeCast S4096x23264 W shapeCasts_S1x4096x23264_S4096x23264) bitsLt_bf16_f32

/-- The weights as the call receives them. -/
theorem words (c : Dev nD) : V m c main_v2 = wordsOf (m ((c : Thread nD τ).loc main_arg1)) := by
  show StableHlo.after (hostOps0 ++ []) _ _ = _
  simp only [List.cons_append, List.nil_append]
  entry_read
  rfl

/-- No block of the weights is cut at the array's edge: a staged cell is the argument's. -/
theorem weights (c : Dev nD) (t : Fin cfg0.N) (k : Fin 4096) (j : Fin 1024) (l : Fin 23264)
    (hl : l.val = (grid0.coords t 1).val * 1024 + j.val) :
    X0_1 m c t (ix2 k j) = m ((c : Thread nD τ).loc main_arg1) (ix3 0 k l) := by
  unfold X0_1 Pipeline.Window.fill
  rw [dif_pos (moved0_1 t _)]
  unfold iblk
  show V m c main_v2 _ = _
  rw [words]
  blk_simp
  pointwise [wordsOf]
  blk_ext [idx t]

/-- What the body stores at a cell of its tile is the reference's product at the cell of the array it goes to. -/
theorem point (c : Dev nD) (t : Fin cfg0.N) (y : S1024x1024.Idx) :
    k0_pay1 (iblk m c 0 t) (X0_1 m c t) y
      = Cert.Reference4Ideal.Tiles.proj (m ((c : Thread nD τ).loc main_arg0)) (m ((c : Thread nD τ).loc main_arg1))
          (((cfg0.win 2).blk t).view.emb y) := by
  pointwise [k0_pay1, Cert.Reference4Ideal.Tiles.proj]
  have h : ∀ k : Fin 4096, X0_1 m c t (ix2 k (y 1)) = _ := fun k =>
    weights m c t k (y 1) ⟨(grid0.coords t 1).val * 1024 + (y 1).val, by
      have h0 : (y 1).val < 1024 := (y 1).isLt
      have h1 : (grid0.coords t 1).val < 15 := (grid0.coords t 1).isLt
      omega⟩ rfl
  simp only [h]
  blk_point [iblk, V, idx t]

/-- The whole output array is the reference's projection. -/
theorem final (c : Dev nD) : (dats m 0 c).arrAt 2 (cfgs 0).N
    = Cert.Reference4Ideal.Tiles.proj (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The last row of the output array, at the columns the RWKV-7 branch shifts. -/
def lastRow (Z : FVec Ideal S16384x15360 .f32) : FVec Ideal S1x1x6880 .f32 :=
  extractStridedSlice S1x1x6880 ![0, 0, 8192]
    (extractStridedSlice S1x1x15360 ![0, 16383, 0] (shapeCast _ Z shapeCasts_S16384x15360_S1x16384x15360)
      slices_S1x16384x15360_S1x1x15360_0_16383_0) slices_S1x1x15360_S1x1x6880_0_0_8192

/-- What the lines after the call leave in the shifted row's buffer. -/
theorem tail (c : Dev nD) :
    Pipeline.afterTail₀ cfgs (dats m) 0 (V0 m) [hostOps1] c main_v6 = lastRow ((dats m 0 c).arrAt 2 (cfgs 0).N) := by
  have h := Pipeline.withArrays_arr (cfgs 0).spec (by decide) c (V0 m c) (fun w => (dats m 0 c).arrAt w (cfgs 0).N) 2
  unfold Pipeline.afterTail₀
  show StableHlo.after (hostOps1 ++ []) _ _ = _
  simp only [List.cons_append, List.nil_append]
  entry_read
  exact congrArg lastRow h

/-- The last row of the reference's product is that of the columns it keeps. -/
theorem lastRow_proj (H : FVec Ideal S16384x4096 .f32) (W : FVec Ideal S1x4096x23264 .f32) :
    lastRow (Cert.Reference4Ideal.Tiles.proj H W) = Cert.Reference4Ideal.Tiles.shift H W := by
  funext y
  pointwise [lastRow, Cert.Reference4Ideal.Tiles.proj, Cert.Reference4Ideal.Tiles.shift]

/-- The shifted row is the reference's. -/
theorem final_shift (c : Dev nD) : Pipeline.afterTail₀ cfgs (dats m) 0 (V0 m) [hostOps1] c main_v6
    = Cert.Reference4Ideal.Tiles.shift (m ((c : Thread nD τ).loc main_arg0)) (m ((c : Thread nD τ).loc main_arg1)) :=
  (tail m c).trans ((congrArg lastRow (final m c)).trans (lastRow_proj _ _))

end Cert.Kernel4Ideal.Tiles

end
-- ==== Proof.ProjectionSample.lean ====
/- The combined input projection of the sample batch: a grid point writes one tile of `h · W`. -/
module

public import proofs.«01_k».proof.Proof.Gen.Kernel8Ideal.Frame
public import proofs.«01_k».proof.Proof.Gen.Reference8Ideal.Run
public import proofs.«01_k».proof.Proof.Scalar
public import Idealize.ShloMosaic.Lib.Pipeline.ValueKit

@[expose] public section

set_option maxRecDepth 16384

noncomputable section

namespace Cert.Reference8Ideal.Tiles

open Cert.Reference8Ideal Cert.Reference8Ideal.Gen Idealize.ShloMosaic

/-- The columns of the product the reference keeps. -/
abbrev proj (H : FVec Ideal S128x4096 .f32) (W : FVec Ideal S1x4096x23264 .f32) : FVec Ideal S128x15360 .f32 :=
  extractStridedSlice S128x15360 ![0, 0]
    (Host.dotGeneral dot_S128x4096_S4096x23264_S128x23264_1_0_0_1_n_n none H
      (shapeCast _ W shapeCasts_S1x4096x23264_S4096x23264)) slices_S128x23264_S128x15360_0_0

/-- The last row of each sequence in the product, at the columns the RWKV-7 branch shifts. -/
abbrev shift (H : FVec Ideal S128x4096 .f32) (W : FVec Ideal S1x4096x23264 .f32) : FVec Ideal S8x1x6880 .f32 :=
  extractStridedSlice S8x1x6880 ![0, 15, 8192]
    (shapeCast _ (Host.dotGeneral dot_S128x4096_S4096x23264_S128x23264_1_0_0_1_n_n none H
      (shapeCast _ W shapeCasts_S1x4096x23264_S4096x23264)) shapeCasts_S128x23264_S8x16x23264)
    slices_S8x16x23264_S8x1x6880_0_15_8192

end Cert.Reference8Ideal.Tiles

namespace Cert.Kernel8Ideal.Tiles

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at a grid point. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The weights, in the kernel's word for them. -/
def wordsOf (W : FVec Ideal S1x4096x23264 .f32) : FVec Ideal S4096x23264 .bf16 :=
  truncf .bf16 (shapeCast S4096x23264 W shapeCasts_S1x4096x23264_S4096x23264) bitsLt_bf16_f32

/-- The weights as the call receives them. -/
theorem words (c : Dev nD) : V m c main_v2 = wordsOf (m ((c : Thread nD τ).loc main_arg1)) := by
  show StableHlo.after (hostOps0 ++ []) _ _ = _
  simp only [List.cons_append, List.nil_append]
  entry_read
  rfl

/-- No block of the weights is cut at the array's edge: a staged cell is the argument's. -/
theorem weights (c : Dev nD) (t : Fin cfg0.N) (k : Fin 4096) (j : Fin 1024) (l : Fin 23264)
    (hl : l.val = (grid0.coords t 1).val * 1024 + j.val) :
    X0_1 m c t (ix2 k j) = m ((c : Thread nD τ).loc main_arg1) (ix3 0 k l) := by
  unfold X0_1 Pipeline.Window.fill
  rw [dif_pos (moved0_1 t _)]
  unfold iblk
  show V m c main_v2 _ = _
  rw [words]
  blk_simp
  pointwise [wordsOf]
  blk_ext [idx t]

/-- What the body stores at a cell of its tile is the reference's product at the cell of the array it goes to. -/
theorem point (c : Dev nD) (t : Fin cfg0.N) (y : S128x1024.Idx) :
    k0_pay1 (iblk m c 0 t) (X0_1 m c t) y
      = Cert.Reference8Ideal.Tiles.proj (m ((c : Thread nD τ).loc main_arg0)) (m ((c : Thread nD τ).loc main_arg1))
          (((cfg0.win 2).blk t).view.emb y) := by
  pointwise [k0_pay1, Cert.Reference8Ideal.Tiles.proj]
  have h : ∀ k : Fin 4096, X0_1 m c t (ix2 k (y 1)) = _ := fun k =>
    weights m c t k (y 1) ⟨(grid0.coords t 1).val * 1024 + (y 1).val, by
      have h0 : (y 1).val < 1024 := (y 1).isLt
      have h1 : (grid0.coords t 1).val < 15 := (grid0.coords t 1).isLt
      omega⟩ rfl
  simp only [h]
  blk_point [iblk, V, idx t]

/-- The whole output array is the reference's projection. -/
theorem final (c : Dev nD) : (dats m 0 c).arrAt 2 (cfgs 0).N
    = Cert.Reference8Ideal.Tiles.proj (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact point m c t y

/-- The last row of each sequence in the output array, at the columns the RWKV-7 branch shifts. -/
def lastRow (Z : FVec Ideal S128x15360 .f32) : FVec Ideal S8x1x6880 .f32 :=
  extractStridedSlice S8x1x6880 ![0, 0, 8192]
    (extractStridedSlice S8x1x15360 ![0, 15, 0] (shapeCast _ Z shapeCasts_S128x15360_S8x16x15360)
      slices_S8x16x15360_S8x1x15360_0_15_0) slices_S8x1x15360_S8x1x6880_0_0_8192

/-- What the lines after the call leave in the shifted rows' buffer. -/
theorem tail (c : Dev nD) :
    Pipeline.afterTail₀ cfgs (dats m) 0 (V0 m) [hostOps1] c main_v6 = lastRow ((dats m 0 c).arrAt 2 (cfgs 0).N) := by
  have h := Pipeline.withArrays_arr (cfgs 0).spec (by decide) c (V0 m c) (fun w => (dats m 0 c).arrAt w (cfgs 0).N) 2
  unfold Pipeline.afterTail₀
  show StableHlo.after (hostOps1 ++ []) _ _ = _
  simp only [List.cons_append, List.nil_append]
  entry_read
  exact congrArg lastRow h

/-- The last rows of the reference's product are those of the columns it keeps. -/
theorem lastRow_proj (H : FVec Ideal S128x4096 .f32) (W : FVec Ideal S1x4096x23264 .f32) :
    lastRow (Cert.Reference8Ideal.Tiles.proj H W) = Cert.Reference8Ideal.Tiles.shift H W := by
  funext y
  pointwise [lastRow, Cert.Reference8Ideal.Tiles.proj, Cert.Reference8Ideal.Tiles.shift]

/-- The shifted rows are the reference's. -/
theorem final_shift (c : Dev nD) : Pipeline.afterTail₀ cfgs (dats m) 0 (V0 m) [hostOps1] c main_v6
    = Cert.Reference8Ideal.Tiles.shift (m ((c : Thread nD τ).loc main_arg0)) (m ((c : Thread nD τ).loc main_arg1)) :=
  (tail m c).trans ((congrArg lastRow (final m c)).trans (lastRow_proj _ _))

end Cert.Kernel8Ideal.Tiles

end
-- ==== Proof.MergeUp.lean ====
/- The two branches' projections and their gated merge: a grid point writes one tile of
   `sigmoid g_a * (o · P_a) + sigmoid g_b * (y · P_b)`. -/
module

public import proofs.«01_k».proof.Proof.Gen.Kernel5Ideal.Frame
public import proofs.«01_k».proof.Proof.Gen.Reference5Ideal.Run
public import proofs.«01_k».proof.Proof.Scalar
public import Idealize.ShloMosaic.Lib.Pipeline.ValueKit

@[expose] public section

set_option maxRecDepth 16384

noncomputable section

namespace Cert.Reference5Ideal.Tiles

open Cert.Reference5Ideal Cert.Reference5Ideal.Gen Idealize.ShloMosaic

/-- The logistic function of every cell, as the reference spells it. -/
abbrev sig (G : FVec Ideal S16384x4096 .f32) : FVec Ideal S16384x4096 .f32 :=
  Host.divf (broadcastInDim S16384x4096 ![] bcast_S_S16384x4096 (constant S_ .f32 0x3F800000#32))
    (addf (broadcastInDim S16384x4096 ![] bcast_S_S16384x4096 (constant S_ .f32 0x3F800000#32)) (Host.exp (Host.negf G)))

/-- One branch's output through its projection. -/
abbrev up (X : FVec Ideal S16384x2048 .bf16) (W : FVec Ideal S1x2048x4096 .f32) : FVec Ideal S16384x4096 .f32 :=
  Host.dotGeneral dot_S16384x2048_S2048x4096_S16384x4096_1_0_0_1_n_n none (extf .f32 X bitsLt_bf16_f32)
    (shapeCast _ W shapeCasts_S1x2048x4096_S2048x4096)

/-- The merge the reference computes. -/
abbrev merge (O Y : FVec Ideal S16384x2048 .bf16) (G : FVec Ideal S16384x8192 .f32) (A B : FVec Ideal S1x2048x4096 .f32) :
    FVec Ideal S16384x4096 .bf16 :=
  truncf .bf16 (addf
    (mulf (sig (extractStridedSlice S16384x4096 ![0, 0] G slices_S16384x8192_S16384x4096_0_0)) (up O A))
    (mulf (sig (extractStridedSlice S16384x4096 ![0, 4096] G slices_S16384x8192_S16384x4096_0_4096)) (up Y B)))
    bitsLt_bf16_f32

end Cert.Reference5Ideal.Tiles

namespace Cert.Kernel5Ideal.Tiles

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- Where each window's block lies at a grid point. -/
theorem idx : ∀ t : Fin cfg0.N, win0_0.index t = ![(grid0.coords t 0).val, 0] ∧ win0_1.index t = ![(grid0.coords t 0).val, 0]
    ∧ win0_2.index t = ![(grid0.coords t 0).val, (grid0.coords t 1).val]
    ∧ win0_3.index t = ![(grid0.coords t 0).val, 8 + (grid0.coords t 1).val]
    ∧ win0_4.index t = ![0, (grid0.coords t 1).val] ∧ win0_5.index t = ![0, (grid0.coords t 1).val]
    ∧ win0_6.index t = ![(grid0.coords t 0).val, (grid0.coords t 1).val] :=
  (by decide +kernel : ∀ t : Fin grid0.N, _)

/-- What the body stores at a cell of its tile is the reference's merge at the cell of the array it goes to. -/
theorem point (c : Dev nD) (t : Fin cfg0.N) (y : S1024x512.Idx) :
    k0_pay1 (iblk m c 0 t) (iblk m c 4 t) (iblk m c 1 t) (iblk m c 5 t) (iblk m c 2 t) (iblk m c 3 t) y
      = Cert.Reference5Ideal.Tiles.merge (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 6).blk t).view.emb y) := by
  pointwise [k0_pay1, Cert.Reference5Ideal.Tiles.merge, Cert.Reference5Ideal.Tiles.sig, Cert.Reference5Ideal.Tiles.up]
  simp only [Cert.Scalar.ofBits_half, Cert.Scalar.half_add_tanh]
  blk_point [iblk, V, idx t]

/-- The whole output array is the reference's merge. -/
theorem final (c : Dev nD) : (dats m 0 c).arrAt 6 (cfgs 0).N
    = Cert.Reference5Ideal.Tiles.merge (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  exact point m c t y

end Cert.Kernel5Ideal.Tiles

end
-- ==== Proof.Gates.lean ====
/- The projection to the gates, inside the call that also runs the HGRN recurrence: a grid point writes one tile of
   `h · W` in four bands of rows, the same in each of the body's three cases. -/
module

public import proofs.«01_k».proof.Proof.Gen.Kernel7Ideal.Frame
public import proofs.«01_k».proof.Proof.Gen.Reference7Ideal.Run
public import proofs.«01_k».proof.Proof.Scalar
public import Idealize.ShloMosaic.Lib.Pipeline.ValueKit

@[expose] public section

set_option maxRecDepth 16384

noncomputable section

namespace Cert.Reference7Ideal.Gates

open Cert.Reference7Ideal Cert.Reference7Ideal.Gen Idealize.ShloMosaic

/-- The columns of the product that are the gates. -/
abbrev gates (H : FVec Ideal S16384x4096 .f32) (W : FVec Ideal S1x4096x23264 .f32) : FVec Ideal S16384x8192 .f32 :=
  extractStridedSlice S16384x8192 ![0, 15072]
    (Host.dotGeneral dot_S16384x4096_S4096x23264_S16384x23264_1_0_0_1_n_n none H
      (shapeCast _ W shapeCasts_S1x4096x23264_S4096x23264)) slices_S16384x23264_S16384x8192_0_15072

end Cert.Reference7Ideal.Gates

namespace Cert.Kernel7Ideal.Gates

open Cert.Kernel7Ideal Cert.Kernel7Ideal.Gen Idealize.ShloMosaic Idealize.ShloMosaic.TcCoe Idealize.SL.Sem
open Idealize.ShloMosaic.Pipeline (Dat)

/-- The product of the staged rows and the staged columns. -/
def tile (X : Vec Ideal S1024x4096 .bf16) (W : Vec Ideal S4096x512 .bf16) : S1024x512.Idx → Elt Ideal .f32 := fun y =>
  ∑ k : Fin 4096, (X (ix2 (y 0) k) : EReal) * W (ix2 k (y 1))

/-- The product of one band of 256 rows is that band of the product. -/
theorem band {a1 : Memref sig .tc .vmem S1024x4096 .bf16} (h1 : a1.IsWhole) {a2 : Memref sig .tc .vmem S4096x512 .bf16} (h2 : a2.IsWhole)
    (X : Vec Ideal S1024x4096 .bf16) (W : Vec Ideal S4096x512 .bf16) (o : ℕ)
    (ix : ∀ a, (![o, 0] : Fin 2 → ℕ) a + S256x4096.size a ≤ S1024x4096.size a)
    (iw : ∀ a, (![0, 0] : Fin 2 → ℕ) a + S4096x512.size a ≤ S4096x512.size a)
    (iy : ∀ a, (![o, 0] : Fin 2 → ℕ) a + S256x512.size a ≤ S1024x512.size a) (z : S256x512.Idx) :
    k0_pay58 (View.readAt (Elt Ideal) a1.view (Rect.unit (s := S1024x4096) ![o, 0] S256x4096.size ix).toLoadRect (h1.unread X))
        (View.readAt (Elt Ideal) a2.view (Rect.unit (s := S4096x512) ![0, 0] S4096x512.size iw).toLoadRect (h2.unread W)) z
      = tile X W ((Rect.unit (s := S1024x512) ![o, 0] S256x512.size iy).emb z) := by
  have hx : View.readAt (Elt Ideal) a1.view (Rect.unit (s := S1024x4096) ![o, 0] S256x4096.size ix).toLoadRect (h1.unread X)
      = fun y => X ((Rect.unit (s := S1024x4096) ![o, 0] S256x4096.size ix).emb y) := funext fun y => congrFun (h1.read_unread X) _
  have hw : View.readAt (Elt Ideal) a2.view (Rect.unit (s := S4096x512) ![0, 0] S4096x512.size iw).toLoadRect (h2.unread W)
      = fun y => W ((Rect.unit (s := S4096x512) ![0, 0] S4096x512.size iw).emb y) := funext fun y => congrFun (h2.read_unread W) _
  rw [hx, hw]
  pointwise [k0_pay58]
  refine Finset.sum_congr rfl fun k _ => congrArg₂ (fun a b : EReal => a * b) (congrArg X (funext fun a => Fin.ext ?_)) (congrArg W (funext fun a => Fin.ext ?_))
  · revert a
    refine Fin.forall_fin_two.mpr ⟨rfl, ?_⟩
    show 0 + 1 * k.val = k.val; omega
  · revert a
    refine Fin.forall_fin_two.mpr ⟨?_, rfl⟩
    show 0 + 1 * k.val = k.val; omega

/-- The four bands a grid point stores. -/
def bands (P0 P1 P2 P3 : Vec Ideal S256x512 .f32) : List (View.Piece (Elt Ideal) S1024x512 .f32) :=
  [⟨Rect.unit (s := S1024x512) ![768, 0] S256x512.size inb_S1024x512_S256x512_768_0, P3⟩,
   ⟨Rect.unit (s := S1024x512) ![512, 0] S256x512.size inb_S1024x512_S256x512_512_0, P2⟩,
   ⟨Rect.unit (s := S1024x512) ![256, 0] S256x512.size inb_S1024x512_S256x512_256_0, P1⟩,
   ⟨Rect.unit (s := S1024x512) ![0, 0] S256x512.size inb_S1024x512_S256x512_0_0, P0⟩]

/-- Each of the bands is a part of the product. -/
theorem banded {a1 : Memref sig .tc .vmem S1024x4096 .bf16} (h1 : a1.IsWhole) {a2 : Memref sig .tc .vmem S4096x512 .bf16} (h2 : a2.IsWhole)
    (X : Vec Ideal S1024x4096 .bf16) (W : Vec Ideal S4096x512 .bf16)
    (i0 : ∀ a, (![0, 0] : Fin 2 → ℕ) a + S256x4096.size a ≤ S1024x4096.size a)
    (i1 : ∀ a, (![256, 0] : Fin 2 → ℕ) a + S256x4096.size a ≤ S1024x4096.size a)
    (i2 : ∀ a, (![512, 0] : Fin 2 → ℕ) a + S256x4096.size a ≤ S1024x4096.size a)
    (i3 : ∀ a, (![768, 0] : Fin 2 → ℕ) a + S256x4096.size a ≤ S1024x4096.size a)
    (iw : ∀ a, (![0, 0] : Fin 2 → ℕ) a + S4096x512.size a ≤ S4096x512.size a) :
    ∀ p ∈ bands
      (k0_pay58 (View.readAt (Elt Ideal) a1.view (Rect.unit (s := S1024x4096) ![0, 0] S256x4096.size i0).toLoadRect (h1.unread X))
        (View.readAt (Elt Ideal) a2.view (Rect.unit (s := S4096x512) ![0, 0] S4096x512.size iw).toLoadRect (h2.unread W)))
      (k0_pay58 (View.readAt (Elt Ideal) a1.view (Rect.unit (s := S1024x4096) ![256, 0] S256x4096.size i1).toLoadRect (h1.unread X))
        (View.readAt (Elt Ideal) a2.view (Rect.unit (s := S4096x512) ![0, 0] S4096x512.size iw).toLoadRect (h2.unread W)))
      (k0_pay58 (View.readAt (Elt Ideal) a1.view (Rect.unit (s := S1024x4096) ![512, 0] S256x4096.size i2).toLoadRect (h1.unread X))
        (View.readAt (Elt Ideal) a2.view (Rect.unit (s := S4096x512) ![0, 0] S4096x512.size iw).toLoadRect (h2.unread W)))
      (k0_pay58 (View.readAt (Elt Ideal) a1.view (Rect.unit (s := S1024x4096) ![768, 0] S256x4096.size i3).toLoadRect (h1.unread X))
        (View.readAt (Elt Ideal) a2.view (Rect.unit (s := S4096x512) ![0, 0] S4096x512.size iw).toLoadRect (h2.unread W))),
      ∀ x : p.1.shape.Idx, p.2 x = tile X W (p.1.emb x) :=
  List.forall_mem_cons.mpr ⟨band h1 h2 X W 768 i3 iw inb_S1024x512_S256x512_768_0, List.forall_mem_cons.mpr ⟨band h1 h2 X W 512 i2 iw inb_S1024x512_S256x512_512_0,
    List.forall_mem_cons.mpr ⟨band h1 h2 X W 256 i1 iw inb_S1024x512_S256x512_256_0, List.forall_mem_cons.mpr ⟨band h1 h2 X W 0 i0 iw inb_S1024x512_S256x512_0_0, fun _ h => (List.not_mem_nil h).elim⟩⟩⟩⟩

variable (m : (ℓ : Loc nD τ sig) → Buf (Elt Ideal) ℓ)

/-- Where each window's block lies at a grid point. -/
theorem idx : ∀ t : Fin cfg0.N, win0_0.index t = ![t.val / 16, 0] ∧ win0_1.index t = ![0, t.val % 16]
    ∧ win0_9.index t = ![t.val / 16, t.val % 16] :=
  (by decide +kernel : ∀ t : Fin grid0.N, _)

/-- The tile a grid point writes, in each case of the body. -/
theorem written (c : Dev nD) (t : Fin cfg0.N) (y : S1024x512.Idx) :
    (outsAt0 m c t.val t.isLt).1 y = tile (iblk m c 0 t) (iblk m c 1 t) y := by
  by_cases h0 : t.val % 64 = 0
  · have h1 : ¬t.val % 64 = 63 := by omega
    rw [outsAt0_A m c t h0 h1]
    dsimp only
    unfold out0_A_9
    rw [View.read_writes_junk_eq_canon]
    refine View.canon_apply_of_pieces (Val := Elt Ideal) (S := S1024x512) (e := .f32) _ _ ?_ y (cover0_A_9 ..)
    exact banded (hs0_0 t) (hs0_1 t) (iblk m c 0 t) (iblk m c 1 t) inb_S1024x4096_S256x4096_0_0 inb_S1024x4096_S256x4096_256_0
        inb_S1024x4096_S256x4096_512_0 inb_S1024x4096_S256x4096_768_0 inb_S4096x512_S4096x512_0_0
  · by_cases h1 : t.val % 64 = 63
    · rw [outsAt0_C m c t h0 h1]
      dsimp only
      unfold out0_C_9
      rw [View.read_writes_junk_eq_canon]
      refine View.canon_apply_of_pieces (Val := Elt Ideal) (S := S1024x512) (e := .f32) _ _ ?_ y (cover0_C_9 ..)
      exact banded (hs0_0 t) (hs0_1 t) (iblk m c 0 t) (iblk m c 1 t) inb_S1024x4096_S256x4096_0_0 inb_S1024x4096_S256x4096_256_0
          inb_S1024x4096_S256x4096_512_0 inb_S1024x4096_S256x4096_768_0 inb_S4096x512_S4096x512_0_0
    · rw [outsAt0_B m c t h0 h1]
      dsimp only
      unfold out0_B_9
      rw [View.read_writes_junk_eq_canon]
      refine View.canon_apply_of_pieces (Val := Elt Ideal) (S := S1024x512) (e := .f32) _ _ ?_ y (cover0_B_9 ..)
      exact banded (hs0_0 t) (hs0_1 t) (iblk m c 0 t) (iblk m c 1 t) inb_S1024x4096_S256x4096_0_0 inb_S1024x4096_S256x4096_256_0
          inb_S1024x4096_S256x4096_512_0 inb_S1024x4096_S256x4096_768_0 inb_S4096x512_S4096x512_0_0

/-- The columns of the weights that are the gates', in the kernel's word for them. -/
def columnsOf (W : FVec Ideal S1x4096x23264 .f32) : FVec Ideal S4096x8192 .bf16 :=
  extractStridedSlice S4096x8192 ![0, 15072]
    (truncf .bf16 (shapeCast S4096x23264 W shapeCasts_S1x4096x23264_S4096x23264) bitsLt_bf16_f32)
    slices_S4096x23264_S4096x8192_0_15072

/-- The gates' columns as the call receives them. -/
theorem columns (c : Dev nD) : V m c main_v17 = columnsOf (m ((c : Thread nD τ).loc main_arg2)) := by
  show StableHlo.after (hostOps0 ++ (hostOps0_1 ++ (hostOps0_2 ++ []))) _ _ = _
  simp only [List.cons_append, List.nil_append]
  entry_read
  rfl

/-- A staged cell of the gates' columns is the argument's. -/
theorem weights (c : Dev nD) (t : Fin cfg0.N) (k : Fin 4096) (j : Fin 512) (l : Fin 23264)
    (hl : l.val = 15072 + (t.val % 16 * 512 + j.val)) :
    iblk m c 1 t (ix2 k j) = m ((c : Thread nD τ).loc main_arg2) (ix3 0 k l) := by
  unfold iblk
  show V m c main_v17 _ = _
  rw [columns]
  blk_simp
  pointwise [columnsOf]
  blk_ext [idx t]

/-- The tile is the reference's product at the cells of the array it goes to. -/
theorem point (c : Dev nD) (t : Fin cfg0.N) (y : S1024x512.Idx) :
    tile (iblk m c 0 t) (iblk m c 1 t) y
      = Cert.Reference7Ideal.Gates.gates (m ((c : Thread nD τ).loc main_arg1)) (m ((c : Thread nD τ).loc main_arg2))
          (((cfg0.win 9).blk t).view.emb y) := by
  pointwise [tile, Cert.Reference7Ideal.Gates.gates]
  have h : ∀ k : Fin 4096, iblk m c 1 t (ix2 k (y 1)) = _ := fun k =>
    weights m c t k (y 1) ⟨15072 + (t.val % 16 * 512 + (y 1).val), by
      have h0 : (y 1).val < 512 := (y 1).isLt
      omega⟩ rfl
  simp only [h]
  blk_point [iblk, V, idx t]

/-- The whole output array is the reference's gates. -/
theorem final (c : Dev nD) : (dats m 0 c).arrAt 9 (cfgs 0).N
    = Cert.Reference7Ideal.Gates.gates (m ((c : Thread nD τ).loc main_arg1)) (m ((c : Thread nD τ).loc main_arg2)) := by
  refine (dats m 0 c).arrAt_eq_of_covers 9 _ (by decide +kernel) fun t _ y => ?_
  blk_simp
  rw [after0_9]
  exact (written m c t y).trans (point m c t y)

end Cert.Kernel7Ideal.Gates

end
-- ==== Proof.DownLnSampleRun.lean ====
/- The second product of the feed-forward sub-layer with its residual and layer norm over the sample batch: one
   block of rows, normalised at once by the last grid point. What a grid point does to the block, and the run of the grid. -/
module

public import proofs.«01_k».proof.Proof.Gen.Kernel9Ideal.Frame
public import proofs.«01_k».proof.Proof.Gen.Kernel9Ideal.Skeleton
public import Idealize.ShloMosaic.Lib.Pipeline.ArrRel
public import Idealize.ShloMosaic.Lib.Pipeline.DatRel
public import Idealize.ShloMosaic.Lib.Pipeline.ValueKit
public import Idealize.ShloMosaic.Lib.WritesUnit

@[expose] public section

set_option maxRecDepth 16384

noncomputable section

namespace Cert.Kernel9Ideal.Rows

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄" => MT nD τ sig Unit (Elt F) ℕ (UR sig nD τ) ℕ

/-! ## Values -/

/-- The block after the layer norm of its rows. -/
def normed (g b : Vec F S1x4096 .f32) (X : Vec F S128x4096 .f32) : Vec F S128x4096 .f32 := k0_pay2 g b X

/-- The place of a cell of the block in the tile of 256 columns it lies in. -/
def inTile (y : S128x4096.Idx) : S128x256.Idx := fun a => ⟨![(y 0).val, (y 1).val % 256] a,
  Fin.forall_fin_two (p := fun a => ![(y 0).val, (y 1).val % 256] a < S128x256.size a) |>.mpr
    ⟨by show (y 0).val < 128; exact (y 0).isLt, by show (y 1).val % 256 < 256; omega⟩ a⟩

/-- The block with the `j`-th tile of 256 columns replaced. -/
def put (j : ℕ) (P : Vec F S128x256 .f32) (Y : Vec F S128x4096 .f32) : Vec F S128x4096 .f32 :=
  fun y => if (y 1).val / 256 = j then P (inTile y) else Y y

/-! ## Stores and loads -/

/-- A store of one tile. -/
theorem tile_read (i : grid0.Coords) (v : View sig .tc .vmem S128x4096 .f32) (f : v.ty.Contents (Elt F)) (P : Vec F S128x256 .f32) :
    v.read (Elt F) (v.writes (Elt F) f [⟨Rect.unit (s := S128x4096) (k0_off1 i) S128x256.size (k0_off1_inb i), P⟩])
      = put (i 1).val P (v.read (Elt F) f) := by
  funext y
  unfold put
  by_cases hy : (y 1).val / 256 = (i 1).val
  · rw [if_pos hy]
    refine View.read_writes_cons_unit_of_mem v f _ _ _ y (inTile y) (k0_off1_eq i) (Fin.forall_fin_two.mpr ⟨?_, ?_⟩)
    · show (y 0).val = 0 + (y 0).val; omega
    · show (y 1).val = 256 * (i 1).val + (y 1).val % 256; omega
  · rw [if_neg hy]
    refine (View.read_writes_cons_unit_of_not_mem v f _ _ _ y (k0_off1_eq i) 1 ?_).trans rfl
    show (y 1).val < 256 * (i 1).val ∨ 256 * (i 1).val + 256 ≤ (y 1).val; omega

/-- A load of a whole buffer. -/
theorem whole_read {sp : Space} {s : Shape} {e : EltTy} (v : View sig .tc sp s e) (f : v.ty.Contents (Elt F)) {off : Fin s.rank → ℕ}
    (inb : ∀ a, off a + s.size a ≤ s.size a) (h0 : ∀ a, off a = 0) :
    View.readAt (Elt F) v (Rect.unit (s := s) off s.size inb).toLoadRect f = v.read (Elt F) f :=
  funext fun z => congrArg (v.read (Elt F) f) (funext fun a => Fin.ext (by
    show off a + 1 * (z a).val = (z a).val
    rw [h0]; omega))

theorem zero2 : ∀ a : Fin 2, (![0, 0] : Fin 2 → ℕ) a = 0 := by decide

theorem zero_off2 : ∀ a : Fin 2, k0_off2 a = 0 := fun a => (congrFun k0_off2_eq a).trans (zero2 a)

/-- A store of the whole block. -/
theorem block_read (i : grid0.Coords) (h : k0_cond1 i = 1#1) (v : View sig .tc .vmem S128x4096 .f32) (f : v.ty.Contents (Elt F))
    (P : Vec F S128x4096 .f32) (l : List (View.Piece (Elt F) S128x4096 .f32)) :
    v.read (Elt F) (v.writes (Elt F) f (⟨Rect.unit (s := S128x4096) k0_off2 S128x4096.size (k0_off2_inb i h), P⟩ :: l)) = P := by
  funext y
  refine View.read_writes_cons_unit_of_mem v f _ _ _ y y k0_off2_eq (Fin.forall_fin_two.mpr ⟨?_, ?_⟩)
  · show (y 0).val = 0 + (y 0).val; omega
  · show (y 1).val = 0 + (y 1).val; omega

/-! ## The body -/

/-- What the body leaves in the block it accumulates. -/
def stepped (i : grid0.Coords) (A : Vec F S128x11008 .bf16) (W : Vec F S11008x256 .bf16) (X : Vec F S128x256 .f32)
    (g b : Vec F S1x4096 .f32) (Y : Vec F S128x4096 .f32) : Vec F S128x4096 .f32 :=
  if k0_cond1 i = 1#1 then normed g b (put (i 1).val (k0_pay1 X A W) Y) else put (i 1).val (k0_pay1 X A W) Y

set_option maxHeartbeats 1000000 in
/-- The body on whole staging buffers: the five inputs are handed back as they were, the block at `stepped` of them. -/
theorem sound_kernel (c : Dev nD) (E : Set ℕ) (i : grid0.Coords) (arg2 : Memref sig .tc .vmem S128x11008 .bf16) (harg2 : arg2.IsWhole)
    (arg3 : Memref sig .tc .vmem S11008x256 .bf16) (harg3 : arg3.IsWhole) (arg4 : Memref sig .tc .vmem S128x256 .f32) (harg4 : arg4.IsWhole)
    (arg5 : Memref sig .tc .vmem S1x4096 .f32) (harg5 : arg5.IsWhole) (arg6 : Memref sig .tc .vmem S1x4096 .f32) (harg6 : arg6.IsWhole)
    (arg7 : Memref sig .tc .vmem S128x4096 .f32) (harg7 : arg7.IsWhole)
    (A : Vec F S128x11008 .bf16) (W : Vec F S11008x256 .bf16) (X : Vec F S128x256 .f32) (g b : Vec F S1x4096 .f32)
    (Y : Vec F S128x4096 .f32) (K : PUnit → sProp 𝕄) :
    iprop(owns (c : Thread nD τ) arg2 fullShare A ∗ owns (c : Thread nD τ) arg3 fullShare W ∗ owns (c : Thread nD τ) arg4 fullShare X
        ∗ owns (c : Thread nD τ) arg5 fullShare g ∗ owns (c : Thread nD τ) arg6 fullShare b ∗ owns (c : Thread nD τ) arg7 fullShare Y
        ∗ (iprop(owns (c : Thread nD τ) arg2 fullShare A ∗ owns (c : Thread nD τ) arg3 fullShare W ∗ owns (c : Thread nD τ) arg4 fullShare X
          ∗ owns (c : Thread nD τ) arg5 fullShare g ∗ owns (c : Thread nD τ) arg6 fullShare b
          ∗ owns (c : Thread nD τ) arg7 fullShare (stepped i A W X g b Y)) -∗ K ⟨⟩))
      ⊢ wp frame (wpE (defs₀ (F := F)) Variants.none c none) E
          (cc0_down_ln i arg2 harg2 arg3 harg3 arg4 harg4 arg5 harg5 arg6 harg6 arg7 harg7) K := by
  simp only [cc0_down_ln_eq_skeleton]; unfold cc0_down_ln_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf2 hf3 hf4 hf5 hf6 hf7
  by_cases h : k0_cond1 i = 1#1
  · sl_exec
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists _; isplitr
    swap; · iexact H7
    ipureintro
    unfold stepped
    rw [if_pos h]
    refine (block_read i h _ _ _ _).trans ?_
    unfold normed
    rw [whole_read _ _ _ zero2, whole_read _ _ _ zero2, whole_read _ _ _ zero_off2]
    refine congrArg (k0_pay2 _ _) ((tile_read i arg7.view f7 _).trans ?_)
    rw [whole_read _ _ _ zero2, whole_read _ _ _ zero2, whole_read _ _ _ zero2]
  · sl_exec
    sl_step
    iapply Hk
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists _; isplitr
    swap; · iexact H7
    ipureintro
    unfold stepped
    rw [if_neg h, tile_read, whole_read _ _ _ zero2, whole_read _ _ _ zero2, whole_read _ _ _ zero2]

/-! ## What the block holds point by point -/

variable (m : (ℓ : Loc nD τ sig) → Buf (Elt F) ℓ) (ρ : Dev nD → PrngReg)

/-- The grid point that computes the tile of a cell. -/
def maker (y : S128x4096.Idx) : Fin cfg0.N := ⟨(y 1).val / 256, by
  have h1 : (y 1).val < 4096 := (y 1).isLt
  show _ < 16
  omega⟩

/-- The block before the layer norm. -/
def acc (c : Dev nD) : Vec F S128x4096 .f32 := fun y =>
  k0_pay1 (iblk m c 2 (maker y)) (iblk m c 0 (maker y)) (iblk m c 1 (maker y)) (inTile y)

/-- What holds of the block after point `t`: its first tiles are in place; after the last tile, all is normalised. -/
def Filled (c : Dev nD) (t : Fin cfg0.N) (X : Vec F S128x4096 .f32) : Prop :=
  if t.val = 15 then X = normed (iblk m c 3 t) (iblk m c 4 t) (acc m c)
  else ∀ y : S128x4096.Idx, (y 1).val / 256 ≤ t.val → X y = acc m c y

theorem coord_eq : ∀ t : Fin cfg0.N, (grid0.coords t 1).val = t.val ∧ (k0_cond1 (grid0.coords t) = 1#1 ↔ t.val = 15) :=
  (by decide +kernel : ∀ t : Fin grid0.N, _)

/-- With the next tile in place, one tile more holds. -/
theorem put_acc (c : Dev nD) (t : Fin cfg0.N) (Y : Vec F S128x4096 .f32)
    (hY : ∀ y : S128x4096.Idx, (y 1).val / 256 < t.val → Y y = acc m c y)
    (y : S128x4096.Idx) (hy : (y 1).val / 256 ≤ t.val) :
    put (grid0.coords t 1).val (k0_pay1 (iblk m c 2 t) (iblk m c 0 t) (iblk m c 1 t)) Y y = acc m c y := by
  unfold put
  rw [(coord_eq t).1]
  by_cases h : (y 1).val / 256 = t.val
  · have hm : maker y = t := Fin.ext (by show (y 1).val / 256 = t.val; exact h)
    rw [if_pos h]
    unfold acc
    rw [hm]
  · rw [if_neg h]
    exact hY y (by omega)

/-- The body keeps `Filled` going. -/
theorem filled_step (c : Dev nD) (t : Fin cfg0.N) (Y : Vec F S128x4096 .f32)
    (hY : ∀ y : S128x4096.Idx, (y 1).val / 256 < t.val → Y y = acc m c y) :
    Filled m c t (stepped (grid0.coords t) (iblk m c 0 t) (iblk m c 1 t) (iblk m c 2 t) (iblk m c 3 t) (iblk m c 4 t) Y) := by
  unfold Filled stepped
  by_cases h : t.val = 15
  · rw [if_pos h, if_pos ((coord_eq t).2.mpr h)]
    congr 1
    funext y
    have h1 : (y 1).val < 4096 := (y 1).isLt
    exact put_acc m c t Y hY y (by omega)
  · rw [if_neg h, if_neg fun e => h ((coord_eq t).2.mp e)]
    exact put_acc m c t Y hY

/-- What was there after the point before is what the body needs to find. -/
theorem filled_prev (c : Dev nD) (t t' : Fin cfg0.N) (ht : t.val = t'.val + 1) (h0 : t'.val ≠ 15) (Y : Vec F S128x4096 .f32)
    (hY : Filled m c t' Y) (y : S128x4096.Idx) (hy : (y 1).val / 256 < t.val) : Y y = acc m c y := by
  unfold Filled at hY
  rw [if_neg h0] at hY
  exact hY y (by omega)

/-! ## The proof data -/

/-- The arrays as the region finds them; the body hands every input back as it found it; the output is held to `Filled`. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => normed (iblk m c 3 t) (iblk m c 4 t) (acc m c)
  Φ _ := Pipeline.ΦA spec0 c
  q _ := fullShare
  owed _ := 0

/-- The output is the one window whose contents are not named. -/
def held : Fin 6 → Bool := ![false, false, false, false, false, true]

/-- What the output is held to. -/
def Rl (c : Dev nD) : (w : Fin cfg0.W) → Fin cfg0.N → ((cfg0.win w).block.Idx → Elt F (cfg0.win w).elt) → Prop
  | ⟨0, _⟩, _, _ => True
  | ⟨1, _⟩, _, _ => True
  | ⟨2, _⟩, _, _ => True
  | ⟨3, _⟩, _, _ => True
  | ⟨4, _⟩, _, _ => True
  | ⟨5, _⟩, t, X => Filled m c t X

theorem A_eq (c : Dev nD) (w : Fin cfg0.W) : (dat m c).A w = V m c (Pipeline.arrRef spec0 w) := by dsimp only [dat]
theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]
theorem after0_2 (c : Dev nD) (t : Fin cfg0.N) : (dat m c).after 2 t = iblk m c 2 t := by dsimp only [dat]
theorem after0_3 (c : Dev nD) (t : Fin cfg0.N) : (dat m c).after 3 t = iblk m c 3 t := by dsimp only [dat]
theorem after0_4 (c : Dev nD) (t : Fin cfg0.N) : (dat m c).after 4 t = iblk m c 4 t := by dsimp only [dat]
theorem before0_0 (c : Dev nD) (t : Fin cfg0.N) (d) : (dat m c).before 0 t d = iblk m c 0 t :=
  before0_0_of m (dat m c) (A_eq m c 0) (after0_0 m c) t d
theorem before0_1 (c : Dev nD) (t : Fin cfg0.N) (d) : (dat m c).before 1 t d = iblk m c 1 t :=
  before0_1_of m (dat m c) (A_eq m c 1) (after0_1 m c) t d
theorem before0_2 (c : Dev nD) (t : Fin cfg0.N) (d) : (dat m c).before 2 t d = iblk m c 2 t :=
  before0_2_of m (dat m c) (A_eq m c 2) (after0_2 m c) t d
theorem before0_3 (c : Dev nD) (t : Fin cfg0.N) (d) : (dat m c).before 3 t d = iblk m c 3 t :=
  before0_3_of m (dat m c) (A_eq m c 3) (after0_3 m c) t d
theorem before0_4 (c : Dev nD) (t : Fin cfg0.N) (d) : (dat m c).before 4 t d = iblk m c 4 t :=
  before0_4_of m (dat m c) (A_eq m c 4) (after0_4 m c) t d

/-- The relational data of the run. -/
abbrev rdat (c : Dev nD) : RDat τ (Elt F) Unit ℕ (UR sig nD τ) ℕ cfg0 c := (dat m c).toRRel held (Rl m c)

/-- The output is never fetched. -/
theorem fetch0_5 (t : Fin cfg0.N) : (cfg0.win 5).fetch t = false := rfl

/-- What the body may find in the block: the tiles of the row block computed so far. -/
theorem found (c : Dev nD) (t : Fin cfg0.N) (Y : Vec F S128x4096 .f32) (hY : (rdat m c).Finds 5 t Y) (y : S128x4096.Idx)
    (hy : (y 1).val / 256 < t.val) : Y y = acc m c y := by
  have ht : t.val ≠ 0 := by intro h; rw [h] at hy; omega
  have h16 : t.val < 16 := t.isLt
  rcases ((rdat m c).finds_of_pos (fetch0_5 t) ht Y).mp hY with h | h
  · have := (flush0_5 _).mp h
    simp only at this
    omega
  · have h' : t.val - 1 < cfg0.N := Nat.lt_of_le_of_lt (Nat.sub_le _ _) t.isLt
    exact filled_prev m c t ⟨t.val - 1, h'⟩ (by show t.val = t.val - 1 + 1; omega) (by show t.val - 1 ≠ 15; omega) Y
      ((dat m c).toRRel_leaves (fgt := held) (Rl := Rl m c) (w := 5) rfl h) y hy

/-! ## The body obligation -/

/-- What the body is called with at a point, -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ Y, ⌜(rdat m c).Finds 5 t Y⌝ ∗ owns (c : Thread nD τ) (st0_5 t) fullShare Y))

/-- and what it returns. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ (∃ X, ⌜Rl m c 5 t X⌝ ∗ owns (c : Thread nD τ) (st0_5 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dat m c).Φ t.succ = (dat m c).Φ t.castSucc from rfl,
    show (dat m c).owesAt () t.succ = (dat m c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%Y, %hY, H5⟩⟩
  iapply (sound_kernel c Set.univ (grid0.coords t) _ _ _ _ _ _ _ _ _ _ _ _ (iblk m c 0 t) (iblk m c 1 t) (iblk m c 2 t) (iblk m c 3 t) (iblk m c 4 t) Y _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexists _; isplitr
  swap; · iexact H5
  ipureintro
  exact filled_step m c t Y (found m c t Y hY)

/-- The body table's row at the point's staging buffers. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ :=
  Pipeline.BodyObligationRel.toRRel (dat m c) (fgt := held) (Rl := Rl m c) fun t => by
    rw [bigSep_W0, bigSep_W0, defs₀_row]
    exact triple_restated (sound_body m c t) rfl .rfl fun _ => .rfl

/-! ## The run -/

set_option backward.isDefEq.respectTransparency.types false in
set_option maxHeartbeats 800000 in
/-- The run: every array ends as the relational data allow, every other buffer as it was, every counter at zero. -/
theorem run_main_quiescent : θ_run defs (onTc (τ := τ) (main (F := F))) (s₀ m ρ)
    (fun r => RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun c w => A_eq m c w) (hΦ := fun _ _ => rfl)

/-- The argument arrays end unchanged. -/
theorem unchanged_of {r : PUnit × MemSt nD τ sig (Elt F)} (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (h.arr_in c 2 rfl).trans ((A_eq m c 2).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame: the argument arrays unchanged, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨unchanged_of m h.1, h.2⟩) (run_main_quiescent m ρ)

end Cert.Kernel9Ideal.Rows

end
-- ==== Proof.DownLnSample.lean ====
/- The second product of the feed-forward sub-layer with its residual and layer norm over the sample batch: the
   kernel's tiles, normalised, are the reference's array. -/
module

public import proofs.«01_k».proof.Proof.DownLnSampleRun
public import proofs.«01_k».proof.Proof.Gen.Reference9Ideal.Run

@[expose] public section

set_option maxRecDepth 16384

noncomputable section

namespace Cert.Reference9Ideal.Rows

open Cert.Reference9Ideal Cert.Reference9Ideal.Gen Idealize.ShloMosaic

/-- The residual scaled, plus half the product with the output weights. -/
abbrev pre (A : FVec Ideal S128x11008 .f32) (W : FVec Ideal S1x11008x4096 .f32) (X : FVec Ideal S128x4096 .f32) :
    FVec Ideal S128x4096 .f32 :=
  addf (mulf (broadcastInDim S128x4096 ![] bcast_S_S128x4096 (constant S_ .f32 0x3F9837F0#32)) X)
    (mulf (broadcastInDim S128x4096 ![] bcast_S_S128x4096 (constant S_ .f32 0x3F000000#32))
      (Host.dotGeneral dot_S128x11008_S11008x4096_S128x4096_1_0_0_1_n_n none A
        (shapeCast _ W shapeCasts_S1x11008x4096_S11008x4096)))

/-- The rows less their mean. -/
abbrev centred (P : FVec Ideal S128x4096 .f32) : FVec Ideal S128x4096 .f32 :=
  subf P (broadcastInDim S128x4096 ![0, 1] bcast_S128x1_S128x4096_0_1
    (Host.divf (broadcastInDim S128x1 ![0] bcast_S128_S128x1_0
        (Host.reduceAdd P (constant S_ .f32 0x00000000#32) reducesTo_S128x4096_S128_d1 h_S_))
      (broadcastInDim S128x1 ![] bcast_S_S128x1 (constant S_ .f32 0x45800000#32))))

/-- The reference's layer norm of the rows. -/
abbrev norm (P : FVec Ideal S128x4096 .f32) (G B : FVec Ideal S1x4096 .f32) : FVec Ideal S128x4096 .f32 :=
  addf (mulf (mulf (centred P)
      (broadcastInDim S128x4096 ![0, 1] bcast_S128x1_S128x4096_0_1
        (Host.rsqrt (addf (Host.divf (broadcastInDim S128x1 ![0] bcast_S128_S128x1_0
            (Host.reduceAdd (mulf (centred P) (centred P)) (constant S_ .f32 0x00000000#32) reducesTo_S128x4096_S128_d1 h_S_))
          (broadcastInDim S128x1 ![] bcast_S_S128x1 (constant S_ .f32 0x45800000#32)))
          (broadcastInDim S128x1 ![] bcast_S_S128x1 (constant S_ .f32 0x3727C5AC#32))))))
      (broadcastInDim S128x4096 ![0, 1] bcast_S1x4096_S128x4096_0_1
        (broadcastInDim S1x4096 ![1] bcast_S4096_S1x4096_1 (shapeCast _ G shapeCasts_S1x4096_S4096))))
    (broadcastInDim S128x4096 ![0, 1] bcast_S1x4096_S128x4096_0_1
      (broadcastInDim S1x4096 ![1] bcast_S4096_S1x4096_1 (shapeCast _ B shapeCasts_S1x4096_S4096)))

/-- The reference's result, in these words. -/
theorem result_word (m : (ℓ : Loc nD τ sig) → Buf (Elt Ideal) ℓ) (c : Dev nD) :
    Cert.Reference9Ideal.Value.res_main_v32 m c
      = norm (pre (m (c.tc.loc main_arg0)) (m (c.tc.loc main_arg1)) (m (c.tc.loc main_arg2)))
          (m (c.tc.loc main_arg3)) (m (c.tc.loc main_arg4)) := by
  unfold Cert.Reference9Ideal.Value.res_main_v32
  rfl

end Cert.Reference9Ideal.Rows

namespace Cert.Kernel9Ideal.Rows

open Cert.Kernel9Ideal Cert.Kernel9Ideal.Gen Idealize.ShloMosaic Idealize.ShloMosaic.TcCoe Idealize.SL.Sem
open Idealize.ShloMosaic.Pipeline (Dat RDat)

variable (m : (ℓ : Loc nD τ sig) → Buf (Elt Ideal) ℓ)

/-- Where each window's block lies at a grid point. -/
theorem idx : ∀ t : Fin cfg0.N, win0_0.index t = ![0, 0] ∧ win0_1.index t = ![0, t.val]
    ∧ win0_2.index t = ![0, t.val] ∧ win0_3.index t = ![0, 0] ∧ win0_4.index t = ![0, 0]
    ∧ win0_5.index t = ![0, 0] :=
  (by decide +kernel : ∀ t : Fin grid0.N, _)

/-- The accumulated tiles are the reference's array before the layer norm. -/
theorem acc_point (c : Dev nD) (t : Fin cfg0.N) (y : S128x4096.Idx) :
    acc m c y = Cert.Reference9Ideal.Rows.pre (m ((c : Thread nD τ).loc main_arg0)) (m ((c : Thread nD τ).loc main_arg1))
      (m ((c : Thread nD τ).loc main_arg2)) (((cfg0.win 5).blk t).view.emb y) := by
  unfold acc
  pointwise [k0_pay1, Cert.Reference9Ideal.Rows.pre]
  blk_point [iblk, V, idx (maker y)]
  all_goals
    have e0 : win0_5.index t 0 = 0 := by rw [(idx t).2.2.2.2.2]; rfl
    have e1 : win0_5.index t 1 = 0 := by rw [(idx t).2.2.2.2.2]; rfl
    have em : (maker y).val = (y 1).val / 256 := rfl
    have i0 : (inTile y 0).val = (y 0).val := rfl
    have i1 : (inTile y 1).val = (y 1).val % 256 := rfl
    omega

/-- The layer norm of a block of rows is the block of the layer norm. -/
theorem norm_point (c : Dev nD) (t : Fin cfg0.N) (P : FVec Ideal S128x4096 .f32) (y : S128x4096.Idx) :
    normed (iblk m c 3 t) (iblk m c 4 t) (fun z : S128x4096.Idx => P (((cfg0.win 5).blk t).view.emb z)) y
      = Cert.Reference9Ideal.Rows.norm P (m ((c : Thread nD τ).loc main_arg3)) (m ((c : Thread nD τ).loc main_arg4))
          (((cfg0.win 5).blk t).view.emb y) := by
  unfold normed
  pointwise [k0_pay2, Cert.Reference9Ideal.Rows.norm, Cert.Reference9Ideal.Rows.centred]
  blk_point [iblk, V, idx t]
  all_goals
    have e0 : win0_5.index t 0 = 0 := by rw [(idx t).2.2.2.2.2]; rfl
    have e1 : win0_5.index t 1 = 0 := by rw [(idx t).2.2.2.2.2]; rfl
    omega

/-- What the output array may hold at the end is the reference's array. -/
theorem final (c : Dev nD) (G : Buf (Elt Ideal) ((cfg0.win 5).arr.view.loc (c.tc : Thread nD τ))) (hG : (rdat m c).ArrAt 5 cfg0.N G) :
    G = Cert.Reference9Ideal.Rows.norm (Cert.Reference9Ideal.Rows.pre (m ((c : Thread nD τ).loc main_arg0))
        (m ((c : Thread nD τ).loc main_arg1)) (m ((c : Thread nD τ).loc main_arg2)))
      (m ((c : Thread nD τ).loc main_arg3)) (m ((c : Thread nD τ).loc main_arg4)) := by
  obtain ⟨X, hX, hA⟩ := hG.exists_exact
  have hX' : ∀ t : Fin cfg0.N, (cfg0.win 5).flush t = true → X t = normed (iblk m c 3 t) (iblk m c 4 t) (acc m c) := fun t ht => by
    have h : Filled m c t (X t) := (dat m c).toRRel_leaves (fgt := held) (Rl := Rl m c) (w := 5) rfl (hX t t.isLt ht)
    unfold Filled at h
    have h16 : t.val < 16 := t.isLt
    have ht' := (flush0_5 t).mp ht
    rwa [if_pos (by omega)] at h
  rw [hA (dat m c).after fun t _ ht => (hX' t ht).symm ▸ rfl]
  refine ((rdat m c).withAfter (dat m c).after).arrAt_eq_of_covers 5 _ (by decide +kernel) fun t _ y => ?_
  have e : acc m c = fun z : S128x4096.Idx => Cert.Reference9Ideal.Rows.pre (m ((c : Thread nD τ).loc main_arg0))
      (m ((c : Thread nD τ).loc main_arg1)) (m ((c : Thread nD τ).loc main_arg2)) (((cfg0.win 5).blk t).view.emb z) :=
    funext fun z => acc_point m c t z
  refine Eq.trans (b := normed (iblk m c 3 t) (iblk m c 4 t) (acc m c) y) rfl ?_
  rw [e]
  exact norm_point m c t _ y

end Cert.Kernel9Ideal.Rows

end
-- ==== Proof.DownLnSampleFrame.lean ====
/- The second product with its layer norm over the sample batch, its program and its idealization: they have the same text, so that the
   idealization's run, over any float values, is the program's. -/
module

public import proofs.«01_k».proof.Proof.DownLnSampleRun
public import proofs.«01_k».proof.Proof.Gen.Kernel9
public import proofs.«01_k».proof.Defs

@[expose] public section

set_option maxRecDepth 16384

noncomputable section

namespace Cert.Kernel9.Rows

open Cert.Kernel9 Idealize.ShloMosaic Idealize.SL.Sem

variable {F : FTy → Type} [FloatOps F]

/-- The two programs' tables of kernel functions are one. -/
theorem bodies_eq : (fun p => Cert.Kernel9.defs₀ (F := F) p) = fun p => Cert.Kernel9Ideal.defs₀ (F := F) p := by
  unfold Cert.Kernel9.defs₀ Cert.Kernel9Ideal.defs₀
  refine congrArg (fun f p => Defs.onTc f p) (funext fun ℓ => funext fun a => ?_)
  match ℓ, a with
  | 0, (t, s) => rfl
  | ⟨_ + 1, h⟩, _ => exact absurd h (Nat.not_lt.2 (Nat.le_add_left _ _))

/-- So are the tables with the pipelines around them. -/
theorem defs_eq : (fun p => Cert.Kernel9.defs (F := F) p) = fun p => Cert.Kernel9Ideal.defs (F := F) p := by
  unfold Cert.Kernel9.defs Cert.Kernel9Ideal.defs
  exact congrArg (fun f p => Pipeline.defs Cert.Kernel9Ideal.pcfgs f p) bodies_eq

/-- The program's frame, from the idealization's run over its own float values. -/
theorem frame : Cert.quiescent_Kernel9 := fun m g _ => by
  have h : ∀ D : Defs nD τ sig (Elt Bits) (Pipeline.Sig Λ₀ (Fin 1) fun p => (pcfgs (F := Bits) p).Adm),
      (fun p => D p) = (fun p => Cert.Kernel9Ideal.defs (F := Bits) p) →
      θ_run D (onTc (τ := τ) (Cert.Kernel9Ideal.main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.sem = fun _ => 0) := fun D hD => by
    obtain rfl : D = _ := hD
    exact Cert.Kernel9Ideal.Rows.frame_main (F := Bits) m g
  exact h _ defs_eq

end Cert.Kernel9.Rows

end
-- ==== Proof.lean ====
module

public import proofs.«01_k».proof.Proof.Gen.Kernel7.Frame
public import proofs.«01_k».proof.Proof.Gen.Kernel7Ideal.Frame
public import proofs.«01_k».proof.Proof.Gen.Reference7Ideal.Run
public import proofs.«01_k».proof.Proof.Recurrence
public import proofs.«01_k».proof.Proof.GatedUp
public import proofs.«01_k».proof.Proof.DownLn
public import proofs.«01_k».proof.Proof.DownLnFrame
public import proofs.«01_k».proof.Proof.Projection
public import proofs.«01_k».proof.Proof.ProjectionSample
public import proofs.«01_k».proof.Proof.MergeUp
public import proofs.«01_k».proof.Proof.Gates
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel9
public import proofs.«01_k».proof.Proof.Gen.Kernel9Ideal
public import proofs.«01_k».proof.Proof.Gen.Reference9Ideal.Run
public import proofs.«01_k».proof.Proof.DownLnSample
public import proofs.«01_k».proof.Proof.DownLnSampleFrame
public import proofs.«01_k».proof.Proof.Gen.Kernel3
public import proofs.«01_k».proof.Proof.Gen.Kernel3Ideal
public import proofs.«01_k».proof.Proof.Gen.Reference3Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Defs
public import Idealize.ShloMosaic.Adequacy
public import Idealize.ShloMosaic.Init
public import Idealize.ShloMosaic.Lib.Claim

@[expose] public section

noncomputable section

namespace Cert.Proof

open Idealize.ShloMosaic Idealize.SL.Sem

/-! ## The references' frames: their runs, and no counter to come back -/

theorem frame_reference : Cert.quiescent_ReferenceIdeal := fun m g _ =>
  (θ_run Cert.ReferenceIdeal.defs _ _).mono
    (fun r h => ⟨fun c => (h c).2.2, sem_eq_zero_of_no_sems (by decide) r.2⟩) (Cert.ReferenceIdeal.Value.run (F := Ideal) m g)

theorem frame_reference2 : Cert.quiescent_Reference2Ideal := fun m g _ =>
  (θ_run Cert.Reference2Ideal.defs _ _).mono
    (fun r h => ⟨fun c => (h c).2, sem_eq_zero_of_no_sems (by decide) r.2⟩) (Cert.Reference2Ideal.Value.run (F := Ideal) m g)

theorem frame_reference3 : Cert.quiescent_Reference3Ideal := fun m g _ =>
  (θ_run Cert.Reference3Ideal.defs _ _).mono
    (fun r h => ⟨fun c => (h c).2, sem_eq_zero_of_no_sems (by decide) r.2⟩) (Cert.Reference3Ideal.Value.run (F := Ideal) m g)

theorem frame_reference4 : Cert.quiescent_Reference4Ideal := fun m g _ =>
  (θ_run Cert.Reference4Ideal.defs _ _).mono
    (fun r h => ⟨fun c => (h c).2.2, sem_eq_zero_of_no_sems (by decide) r.2⟩) (Cert.Reference4Ideal.Value.run (F := Ideal) m g)

theorem frame_reference5 : Cert.quiescent_Reference5Ideal := fun m g _ =>
  (θ_run Cert.Reference5Ideal.defs _ _).mono
    (fun r h => ⟨fun c => (h c).2, sem_eq_zero_of_no_sems (by decide) r.2⟩) (Cert.Reference5Ideal.Value.run (F := Ideal) m g)

theorem frame_reference7 : Cert.quiescent_Reference7Ideal := fun m g _ =>
  (θ_run Cert.Reference7Ideal.defs _ _).mono
    (fun r h => ⟨fun c => (h c).2, sem_eq_zero_of_no_sems (by decide) r.2⟩) (Cert.Reference7Ideal.Value.run (F := Ideal) m g)

theorem frame_reference8 : Cert.quiescent_Reference8Ideal := fun m g _ =>
  (θ_run Cert.Reference8Ideal.defs _ _).mono
    (fun r h => ⟨fun c => (h c).2.2, sem_eq_zero_of_no_sems (by decide) r.2⟩) (Cert.Reference8Ideal.Value.run (F := Ideal) m g)

theorem frame_reference9 : Cert.quiescent_Reference9Ideal := fun m g _ =>
  (θ_run Cert.Reference9Ideal.defs _ _).mono
    (fun r h => ⟨fun c => (h c).2, sem_eq_zero_of_no_sems (by decide) r.2⟩) (Cert.Reference9Ideal.Value.run (F := Ideal) m g)

/-! ## The results -/

/-- The one rewritten constant is the reciprocal of the logarithm of two. -/
theorem preserves : Cert.preserves_Kernel_KernelIdeal :=
  IdealRules.named_const.statement Cert.KernelIdeal.κ "log2e" .f32 0x3FB8AA3B#32 (((Real.log 2)⁻¹ : ℝ) : EReal) rfl

/-- The gated linear recurrence: outputs and final state. -/
theorem algebraic : Cert.algebraic_KernelIdeal_ReferenceIdeal := by
  intro m g m' g' _ hagree
  refine ⟨fun c => Cert.ReferenceIdeal.Recurrence.result (Cert.KernelIdeal.Recurrence.A m c) (Cert.KernelIdeal.Recurrence.Z m c)
      (Cert.KernelIdeal.Recurrence.G m c) (Cert.KernelIdeal.Recurrence.S m c),
    fun c => Cert.ReferenceIdeal.Recurrence.state (Cert.KernelIdeal.Recurrence.A m c) (Cert.KernelIdeal.Recurrence.Z m c)
      (Cert.KernelIdeal.Recurrence.S m c), ?_, ?_⟩
  · exact θ_run_mono (θ_run_and (Cert.KernelIdeal.Gen.run_main m g) (Cert.KernelIdeal.Gen.unchanged m g)) fun r h c =>
      ⟨((h.1 c).1 7).trans (Cert.KernelIdeal.Recurrence.final_output m c),
        ((h.1 c).1 8).trans (Cert.KernelIdeal.Recurrence.final_state m c), h.2 c⟩
  · refine θ_run_mono (Cert.ReferenceIdeal.Value.run m' g') fun r h c => ?_
    obtain ⟨houtput, hstate, hargs⟩ := h c
    obtain ⟨h0, h1, h2, h3⟩ := hagree c
    refine ⟨(houtput.trans (Cert.ReferenceIdeal.Recurrence.result_word m' c)).trans ?_,
      (hstate.trans (Cert.ReferenceIdeal.Recurrence.state_word m' c)).trans ?_, hargs⟩
    · rw [h0, h1, h2, h3]
    · rw [h0, h1, h3]

/-- The feed-forward activation. -/
theorem algebraic2 : Cert.algebraic_Kernel2Ideal_Reference2Ideal := by
  pair_intro
  · run_from Cert.Kernel2Ideal.Gen.run_main m g
  · run_from Cert.Reference2Ideal.Value.run m' g'
    exact (Cert.Kernel2Ideal.Tiles.final m c).symm

/-- The second product of the feed-forward sub-layer, with its residual and layer norm. -/
theorem algebraic3 : Cert.algebraic_Kernel3Ideal_Reference3Ideal := by
  intro m g m' g' _ hagree
  refine ⟨fun c => Cert.Reference3Ideal.Rows.norm (Cert.Reference3Ideal.Rows.pre (m (c.tc.loc Cert.Kernel3Ideal.main_arg0))
        (m (c.tc.loc Cert.Kernel3Ideal.main_arg1)) (m (c.tc.loc Cert.Kernel3Ideal.main_arg2)))
      (m (c.tc.loc Cert.Kernel3Ideal.main_arg3)) (m (c.tc.loc Cert.Kernel3Ideal.main_arg4)), ?_, ?_⟩
  · exact θ_run_mono (Cert.Kernel3Ideal.Rows.run_main_quiescent m g) fun r h c =>
      ⟨Cert.Kernel3Ideal.Rows.final m c _ ((h.1 c).1 5), Cert.Kernel3Ideal.Rows.unchanged_of m h.1 c⟩
  · refine θ_run_mono (Cert.Reference3Ideal.Value.run m' g') fun r h c => ?_
    obtain ⟨hresult, hargs⟩ := h c
    obtain ⟨h0, h1, h2, h3, h4⟩ := hagree c
    refine ⟨(hresult.trans (Cert.Reference3Ideal.Rows.result_word m' c)).trans ?_, hargs⟩
    rw [h0, h1, h2, h3, h4]

/-- The input projection, and its last row. -/
theorem algebraic4 : Cert.algebraic_Kernel4Ideal_Reference4Ideal := by
  intro m g m' g' _ hagree
  refine ⟨fun c => Cert.Reference4Ideal.Tiles.proj (m (c.tc.loc Cert.Kernel4Ideal.main_arg0)) (m (c.tc.loc Cert.Kernel4Ideal.main_arg1)),
    fun c => Cert.Reference4Ideal.Tiles.shift (m (c.tc.loc Cert.Kernel4Ideal.main_arg0)) (m (c.tc.loc Cert.Kernel4Ideal.main_arg1)), ?_, ?_⟩
  · exact θ_run_mono (θ_run_and (Cert.Kernel4Ideal.Gen.run_main m g) (Cert.Kernel4Ideal.Gen.unchanged m g)) fun r h c =>
      ⟨((h.1 c).1 2).trans (Cert.Kernel4Ideal.Tiles.final m c),
        ((h.1 c).2 Cert.Kernel4Ideal.main_v6 (by decide)).trans (Cert.Kernel4Ideal.Tiles.final_shift m c), h.2 c⟩
  · refine θ_run_mono (Cert.Reference4Ideal.Value.run m' g') fun r h c => ?_
    obtain ⟨hproj, hshift, hargs⟩ := h c
    obtain ⟨h0, h1⟩ := hagree c
    refine ⟨hproj.trans ?_, hshift.trans ?_, hargs⟩
    · rw [h0, h1]
    · rw [h0, h1]

/-- The gated merge. -/
theorem algebraic5 : Cert.algebraic_Kernel5Ideal_Reference5Ideal := by
  pair_intro
  · run_from Cert.Kernel5Ideal.Gen.run_main m g
  · run_from Cert.Reference5Ideal.Value.run m' g'
    exact (Cert.Kernel5Ideal.Tiles.final m c).symm

/-- The projection to the gates. -/
theorem algebraic7 : Cert.algebraic_Kernel7Ideal_Reference7Ideal := by
  intro m g m' g' _ hagree
  refine ⟨fun c => Cert.Reference7Ideal.Gates.gates (m (c.tc.loc Cert.Kernel7Ideal.main_arg1)) (m (c.tc.loc Cert.Kernel7Ideal.main_arg2)), ?_, ?_⟩
  · exact θ_run_mono (θ_run_and (Cert.Kernel7Ideal.Gen.run_main m g) (Cert.Kernel7Ideal.Gen.unchanged m g)) fun r h c =>
      ⟨((h.1 c).1 9).trans (Cert.Kernel7Ideal.Gates.final m c), h.2 c⟩
  · refine θ_run_mono (Cert.Reference7Ideal.Value.run m' g') fun r h c => ?_
    obtain ⟨hresult, hargs⟩ := h c
    obtain ⟨h0, h1, h2, h3, h4⟩ := hagree c
    refine ⟨hresult.trans ?_, hargs⟩
    rw [h1, h2]

/-- The input projection of the sample batch, and the last row of each of its sequences. -/
theorem algebraic8 : Cert.algebraic_Kernel8Ideal_Reference8Ideal := by
  intro m g m' g' _ hagree
  refine ⟨fun c => Cert.Reference8Ideal.Tiles.proj (m (c.tc.loc Cert.Kernel8Ideal.main_arg0)) (m (c.tc.loc Cert.Kernel8Ideal.main_arg1)),
    fun c => Cert.Reference8Ideal.Tiles.shift (m (c.tc.loc Cert.Kernel8Ideal.main_arg0)) (m (c.tc.loc Cert.Kernel8Ideal.main_arg1)), ?_, ?_⟩
  · exact θ_run_mono (θ_run_and (Cert.Kernel8Ideal.Gen.run_main m g) (Cert.Kernel8Ideal.Gen.unchanged m g)) fun r h c =>
      ⟨((h.1 c).1 2).trans (Cert.Kernel8Ideal.Tiles.final m c),
        ((h.1 c).2 Cert.Kernel8Ideal.main_v6 (by decide)).trans (Cert.Kernel8Ideal.Tiles.final_shift m c), h.2 c⟩
  · refine θ_run_mono (Cert.Reference8Ideal.Value.run m' g') fun r h c => ?_
    obtain ⟨hproj, hshift, hargs⟩ := h c
    obtain ⟨h0, h1⟩ := hagree c
    refine ⟨hproj.trans ?_, hshift.trans ?_, hargs⟩
    · rw [h0, h1]
    · rw [h0, h1]

/-- The second product of the feed-forward sub-layer, with its residual and layer norm, over the sample batch. -/
theorem algebraic9 : Cert.algebraic_Kernel9Ideal_Reference9Ideal := by
  intro m g m' g' _ hagree
  refine ⟨fun c => Cert.Reference9Ideal.Rows.norm (Cert.Reference9Ideal.Rows.pre (m (c.tc.loc Cert.Kernel9Ideal.main_arg0))
        (m (c.tc.loc Cert.Kernel9Ideal.main_arg1)) (m (c.tc.loc Cert.Kernel9Ideal.main_arg2)))
      (m (c.tc.loc Cert.Kernel9Ideal.main_arg3)) (m (c.tc.loc Cert.Kernel9Ideal.main_arg4)), ?_, ?_⟩
  · exact θ_run_mono (Cert.Kernel9Ideal.Rows.run_main_quiescent m g) fun r h c =>
      ⟨Cert.Kernel9Ideal.Rows.final m c _ ((h.1 c).1 5), Cert.Kernel9Ideal.Rows.unchanged_of m h.1 c⟩
  · refine θ_run_mono (Cert.Reference9Ideal.Value.run m' g') fun r h c => ?_
    obtain ⟨hresult, hargs⟩ := h c
    obtain ⟨h0, h1, h2, h3, h4⟩ := hagree c
    refine ⟨(hresult.trans (Cert.Reference9Ideal.Rows.result_word m' c)).trans ?_, hargs⟩
    rw [h0, h1, h2, h3, h4]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    fun m g _ => Cert.Kernel.Gen.frame m g, fun m g _ => Cert.KernelIdeal.Gen.frame m g, frame_reference,
    fun m g _ => Cert.Kernel2.Gen.frame m g, fun m g _ => Cert.Kernel2Ideal.Gen.frame m g, frame_reference2,
    Cert.Kernel3.Rows.frame, fun m g _ => Cert.Kernel3Ideal.Rows.frame_main m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    fun m g _ => Cert.Kernel7.Gen.frame m g, fun m g _ => Cert.Kernel7Ideal.Gen.frame m g, frame_reference7,
    fun m g _ => Cert.Kernel8.Gen.frame m g, fun m g _ => Cert.Kernel8Ideal.Gen.frame m g, frame_reference8,
    Cert.Kernel9.Rows.frame, fun m g _ => Cert.Kernel9Ideal.Rows.frame_main m g, frame_reference9,
    preserves, algebraic, trivial, algebraic2, trivial, algebraic3, trivial, algebraic4, trivial, algebraic5, trivial, algebraic7, trivial, algebraic8, trivial, algebraic9⟩

end Cert.Proof

end
